-- ==== Defs.lean ====
def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_DoKernel (m : (ℓ : Loc Cert.DoKernel.nD Cert.DoKernel.τ Cert.DoKernel.sig) → Buf (Elt Bits) ℓ) : Prop :=
  True

def Pre_DoKernelIdeal (m : (ℓ : Loc Cert.DoKernelIdeal.nD Cert.DoKernelIdeal.τ Cert.DoKernelIdeal.sig) → Buf (Elt Ideal) ℓ) : Prop :=
  True

def Pre_DoReferenceIdeal (m : (ℓ : Loc Cert.DoReferenceIdeal.nD Cert.DoReferenceIdeal.τ Cert.DoReferenceIdeal.sig) → Buf (Elt Ideal) ℓ) : Prop :=
  True

def Pre_DqkvKernel (m : (ℓ : Loc Cert.DqkvKernel.nD Cert.DqkvKernel.τ Cert.DqkvKernel.sig) → Buf (Elt Bits) ℓ) : Prop :=
  True

def Pre_DqkvKernelIdeal (m : (ℓ : Loc Cert.DqkvKernelIdeal.nD Cert.DqkvKernelIdeal.τ Cert.DqkvKernelIdeal.sig) → Buf (Elt Ideal) ℓ) : Prop :=
  True

def Pre_DqkvReferenceIdeal (m : (ℓ : Loc Cert.DqkvReferenceIdeal.nD Cert.DqkvReferenceIdeal.τ Cert.DqkvReferenceIdeal.sig) → Buf (Elt Ideal) ℓ) : Prop :=
  True

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_DoKernel [hDoKernel : Cert.DoKernel.Facts] : Prop :=
  ∀ (m : (ℓ : Loc Cert.DoKernel.nD Cert.DoKernel.τ Cert.DoKernel.sig) → Buf (Elt Bits) ℓ) (g : Dev Cert.DoKernel.nD → PrngReg), Pre_DoKernel m →
    θ_run (Cert.DoKernel.defs (F := Bits)) (onTc (τ := Cert.DoKernel.τ) (Cert.DoKernel.main (F := Bits))) ⟨m, fun _ => 0, g⟩ (fun r => (∀ c : Dev Cert.DoKernel.nD,
      r.2.mem ((c.tc : Thread Cert.DoKernel.nD Cert.DoKernel.τ).loc Cert.DoKernel.main_arg0) = m ((c.tc : Thread Cert.DoKernel.nD Cert.DoKernel.τ).loc Cert.DoKernel.main_arg0)
      ∧ r.2.mem ((c.tc : Thread Cert.DoKernel.nD Cert.DoKernel.τ).loc Cert.DoKernel.main_arg1) = m ((c.tc : Thread Cert.DoKernel.nD Cert.DoKernel.τ).loc Cert.DoKernel.main_arg1))
      ∧ r.2.sem = fun _ => 0)

def quiescent_DoKernelIdeal [hDoKernelIdeal : Cert.DoKernelIdeal.Facts] : Prop :=
  ∀ (m : (ℓ : Loc Cert.DoKernelIdeal.nD Cert.DoKernelIdeal.τ Cert.DoKernelIdeal.sig) → Buf (Elt Ideal) ℓ) (g : Dev Cert.DoKernelIdeal.nD → PrngReg), Pre_DoKernelIdeal m →
    θ_run (Cert.DoKernelIdeal.defs (F := Ideal)) (onTc (τ := Cert.DoKernelIdeal.τ) (Cert.DoKernelIdeal.main (F := Ideal))) ⟨m, fun _ => 0, g⟩ (fun r => (∀ c : Dev Cert.DoKernelIdeal.nD,
      r.2.mem ((c.tc : Thread Cert.DoKernelIdeal.nD Cert.DoKernelIdeal.τ).loc Cert.DoKernelIdeal.main_arg0) = m ((c.tc : Thread Cert.DoKernelIdeal.nD Cert.DoKernelIdeal.τ).loc Cert.DoKernelIdeal.main_arg0)
      ∧ r.2.mem ((c.tc : Thread Cert.DoKernelIdeal.nD Cert.DoKernelIdeal.τ).loc Cert.DoKernelIdeal.main_arg1) = m ((c.tc : Thread Cert.DoKernelIdeal.nD Cert.DoKernelIdeal.τ).loc Cert.DoKernelIdeal.main_arg1))
      ∧ r.2.sem = fun _ => 0)

def quiescent_DoReferenceIdeal [hDoReferenceIdeal : Cert.DoReferenceIdeal.Facts] : Prop :=
  ∀ (m : (ℓ : Loc Cert.DoReferenceIdeal.nD Cert.DoReferenceIdeal.τ Cert.DoReferenceIdeal.sig) → Buf (Elt Ideal) ℓ) (g : Dev Cert.DoReferenceIdeal.nD → PrngReg), Pre_DoReferenceIdeal m →
    θ_run (Cert.DoReferenceIdeal.defs (F := Ideal)) (onTc (τ := Cert.DoReferenceIdeal.τ) (Cert.DoReferenceIdeal.main (F := Ideal))) ⟨m, fun _ => 0, g⟩ (fun r => (∀ c : Dev Cert.DoReferenceIdeal.nD,
      r.2.mem ((c.tc : Thread Cert.DoReferenceIdeal.nD Cert.DoReferenceIdeal.τ).loc Cert.DoReferenceIdeal.main_arg0) = m ((c.tc : Thread Cert.DoReferenceIdeal.nD Cert.DoReferenceIdeal.τ).loc Cert.DoReferenceIdeal.main_arg0)
      ∧ r.2.mem ((c.tc : Thread Cert.DoReferenceIdeal.nD Cert.DoReferenceIdeal.τ).loc Cert.DoReferenceIdeal.main_arg1) = m ((c.tc : Thread Cert.DoReferenceIdeal.nD Cert.DoReferenceIdeal.τ).loc Cert.DoReferenceIdeal.main_arg1))
      ∧ r.2.sem = fun _ => 0)

def quiescent_DqkvKernel [hDqkvKernel : Cert.DqkvKernel.Facts] : Prop :=
  ∀ (m : (ℓ : Loc Cert.DqkvKernel.nD Cert.DqkvKernel.τ Cert.DqkvKernel.sig) → Buf (Elt Bits) ℓ) (g : Dev Cert.DqkvKernel.nD → PrngReg), Pre_DqkvKernel m →
    θ_run (Cert.DqkvKernel.defs (F := Bits)) (onTc (τ := Cert.DqkvKernel.τ) (Cert.DqkvKernel.main (F := Bits))) ⟨m, fun _ => 0, g⟩ (fun r => (∀ c : Dev Cert.DqkvKernel.nD,
      r.2.mem ((c.tc : Thread Cert.DqkvKernel.nD Cert.DqkvKernel.τ).loc Cert.DqkvKernel.main_arg0) = m ((c.tc : Thread Cert.DqkvKernel.nD Cert.DqkvKernel.τ).loc Cert.DqkvKernel.main_arg0)
      ∧ r.2.mem ((c.tc : Thread Cert.DqkvKernel.nD Cert.DqkvKernel.τ).loc Cert.DqkvKernel.main_arg1) = m ((c.tc : Thread Cert.DqkvKernel.nD Cert.DqkvKernel.τ).loc Cert.DqkvKernel.main_arg1))
      ∧ r.2.sem = fun _ => 0)

def quiescent_DqkvKernelIdeal [hDqkvKernelIdeal : Cert.DqkvKernelIdeal.Facts] : Prop :=
  ∀ (m : (ℓ : Loc Cert.DqkvKernelIdeal.nD Cert.DqkvKernelIdeal.τ Cert.DqkvKernelIdeal.sig) → Buf (Elt Ideal) ℓ) (g : Dev Cert.DqkvKernelIdeal.nD → PrngReg), Pre_DqkvKernelIdeal m →
    θ_run (Cert.DqkvKernelIdeal.defs (F := Ideal)) (onTc (τ := Cert.DqkvKernelIdeal.τ) (Cert.DqkvKernelIdeal.main (F := Ideal))) ⟨m, fun _ => 0, g⟩ (fun r => (∀ c : Dev Cert.DqkvKernelIdeal.nD,
      r.2.mem ((c.tc : Thread Cert.DqkvKernelIdeal.nD Cert.DqkvKernelIdeal.τ).loc Cert.DqkvKernelIdeal.main_arg0) = m ((c.tc : Thread Cert.DqkvKernelIdeal.nD Cert.DqkvKernelIdeal.τ).loc Cert.DqkvKernelIdeal.main_arg0)
      ∧ r.2.mem ((c.tc : Thread Cert.DqkvKernelIdeal.nD Cert.DqkvKernelIdeal.τ).loc Cert.DqkvKernelIdeal.main_arg1) = m ((c.tc : Thread Cert.DqkvKernelIdeal.nD Cert.DqkvKernelIdeal.τ).loc Cert.DqkvKernelIdeal.main_arg1))
      ∧ r.2.sem = fun _ => 0)

def quiescent_DqkvReferenceIdeal [hDqkvReferenceIdeal : Cert.DqkvReferenceIdeal.Facts] : Prop :=
  ∀ (m : (ℓ : Loc Cert.DqkvReferenceIdeal.nD Cert.DqkvReferenceIdeal.τ Cert.DqkvReferenceIdeal.sig) → Buf (Elt Ideal) ℓ) (g : Dev Cert.DqkvReferenceIdeal.nD → PrngReg), Pre_DqkvReferenceIdeal m →
    θ_run (Cert.DqkvReferenceIdeal.defs (F := Ideal)) (onTc (τ := Cert.DqkvReferenceIdeal.τ) (Cert.DqkvReferenceIdeal.main (F := Ideal))) ⟨m, fun _ => 0, g⟩ (fun r => (∀ c : Dev Cert.DqkvReferenceIdeal.nD,
      r.2.mem ((c.tc : Thread Cert.DqkvReferenceIdeal.nD Cert.DqkvReferenceIdeal.τ).loc Cert.DqkvReferenceIdeal.main_arg0) = m ((c.tc : Thread Cert.DqkvReferenceIdeal.nD Cert.DqkvReferenceIdeal.τ).loc Cert.DqkvReferenceIdeal.main_arg0)
      ∧ r.2.mem ((c.tc : Thread Cert.DqkvReferenceIdeal.nD Cert.DqkvReferenceIdeal.τ).loc Cert.DqkvReferenceIdeal.main_arg1) = m ((c.tc : Thread Cert.DqkvReferenceIdeal.nD Cert.DqkvReferenceIdeal.τ).loc Cert.DqkvReferenceIdeal.main_arg1))
      ∧ r.2.sem = fun _ => 0)

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v10) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)) →
    ∃ (v0 : (c : Dev Cert.QkvKernelIdeal.nD) → Buf (Elt Ideal) ((c.tc : Thread Cert.QkvKernelIdeal.nD Cert.QkvKernelIdeal.τ).loc Cert.QkvKernelIdeal.main_v13_0)) (v1 : (c : Dev Cert.QkvKernelIdeal.nD) → Buf (Elt Ideal) ((c.tc : Thread Cert.QkvKernelIdeal.nD Cert.QkvKernelIdeal.τ).loc Cert.QkvKernelIdeal.main_v13_1)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v13_0) = v0 c
          ∧ r.2.mem ((c.tc : Thread Cert.QkvKernelIdeal.nD Cert.QkvKernelIdeal.τ).loc Cert.QkvKernelIdeal.main_v13_1) = v1 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v84) = v0 c
          ∧ r.2.mem ((c.tc : Thread Cert.QkvReferenceIdeal.nD Cert.QkvReferenceIdeal.τ).loc Cert.QkvReferenceIdeal.main_v86) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_DoKernel_DoKernelIdeal : Prop :=
  IdealRules.bf16_pair.Statement Cert.DoKernelIdeal.S16x128 Cert.DoKernelIdeal.S8x128
  ∧ IdealRules.bf16_pack.Statement Cert.DoKernelIdeal.S8x128

def algebraic_DoKernelIdeal_DoReferenceIdeal [hDoKernelIdeal : Cert.DoKernelIdeal.Facts] [hDoReferenceIdeal : Cert.DoReferenceIdeal.Facts] : Prop :=
  ∀ (m : (ℓ : Loc Cert.DoKernelIdeal.nD Cert.DoKernelIdeal.τ Cert.DoKernelIdeal.sig) → Buf (Elt Ideal) ℓ) (g : Dev Cert.DoKernelIdeal.nD → PrngReg)
    (m' : (ℓ : Loc Cert.DoReferenceIdeal.nD Cert.DoReferenceIdeal.τ Cert.DoReferenceIdeal.sig) → Buf (Elt Ideal) ℓ) (g' : Dev Cert.DoReferenceIdeal.nD → PrngReg), Pre_DoKernelIdeal m →
    (∀ c : Dev Cert.DoKernelIdeal.nD,
      m' ((c.tc : Thread Cert.DoReferenceIdeal.nD Cert.DoReferenceIdeal.τ).loc Cert.DoReferenceIdeal.main_arg0) = m ((c.tc : Thread Cert.DoKernelIdeal.nD Cert.DoKernelIdeal.τ).loc Cert.DoKernelIdeal.main_arg0)
      ∧ m' ((c.tc : Thread Cert.DoReferenceIdeal.nD Cert.DoReferenceIdeal.τ).loc Cert.DoReferenceIdeal.main_arg1) = m ((c.tc : Thread Cert.DoKernelIdeal.nD Cert.DoKernelIdeal.τ).loc Cert.DoKernelIdeal.main_arg1)) →
    ∃ (v0 : (c : Dev Cert.DoKernelIdeal.nD) → Buf (Elt Ideal) ((c.tc : Thread Cert.DoKernelIdeal.nD Cert.DoKernelIdeal.τ).loc Cert.DoKernelIdeal.main_v0)),
      θ_run (Cert.DoKernelIdeal.defs (F := Ideal)) (onTc (τ := Cert.DoKernelIdeal.τ) (Cert.DoKernelIdeal.main (F := Ideal))) ⟨m, fun _ => 0, g⟩ (fun r => ∀ c : Dev Cert.DoKernelIdeal.nD,
          r.2.mem ((c.tc : Thread Cert.DoKernelIdeal.nD Cert.DoKernelIdeal.τ).loc Cert.DoKernelIdeal.main_v0) = v0 c
          ∧ r.2.mem ((c.tc : Thread Cert.DoKernelIdeal.nD Cert.DoKernelIdeal.τ).loc Cert.DoKernelIdeal.main_arg0) = m ((c.tc : Thread Cert.DoKernelIdeal.nD Cert.DoKernelIdeal.τ).loc Cert.DoKernelIdeal.main_arg0)
          ∧ r.2.mem ((c.tc : Thread Cert.DoKernelIdeal.nD Cert.DoKernelIdeal.τ).loc Cert.DoKernelIdeal.main_arg1) = m ((c.tc : Thread Cert.DoKernelIdeal.nD Cert.DoKernelIdeal.τ).loc Cert.DoKernelIdeal.main_arg1))
      ∧ θ_run (Cert.DoReferenceIdeal.defs (F := Ideal)) (onTc (τ := Cert.DoReferenceIdeal.τ) (Cert.DoReferenceIdeal.main (F := Ideal))) ⟨m', fun _ => 0, g'⟩ (fun r => ∀ c : Dev Cert.DoReferenceIdeal.nD,
          r.2.mem ((c.tc : Thread Cert.DoReferenceIdeal.nD Cert.DoReferenceIdeal.τ).loc Cert.DoReferenceIdeal.main_v36) = v0 c
          ∧ r.2.mem ((c.tc : Thread Cert.DoReferenceIdeal.nD Cert.DoReferenceIdeal.τ).loc Cert.DoReferenceIdeal.main_arg0) = m' ((c.tc : Thread Cert.DoReferenceIdeal.nD Cert.DoReferenceIdeal.τ).loc Cert.DoReferenceIdeal.main_arg0)
          ∧ r.2.mem ((c.tc : Thread Cert.DoReferenceIdeal.nD Cert.DoReferenceIdeal.τ).loc Cert.DoReferenceIdeal.main_arg1) = m' ((c.tc : Thread Cert.DoReferenceIdeal.nD Cert.DoReferenceIdeal.τ).loc Cert.DoReferenceIdeal.main_arg1))

def preserves_DqkvKernel_DqkvKernelIdeal : Prop :=
  IdealRules.bf16_pair.Statement Cert.DqkvKernelIdeal.S16x128 Cert.DqkvKernelIdeal.S8x128
  ∧ IdealRules.bf16_pack.Statement Cert.DqkvKernelIdeal.S8x128

def algebraic_DqkvKernelIdeal_DqkvReferenceIdeal [hDqkvKernelIdeal : Cert.DqkvKernelIdeal.Facts] [hDqkvReferenceIdeal : Cert.DqkvReferenceIdeal.Facts] : Prop :=
  ∀ (m : (ℓ : Loc Cert.DqkvKernelIdeal.nD Cert.DqkvKernelIdeal.τ Cert.DqkvKernelIdeal.sig) → Buf (Elt Ideal) ℓ) (g : Dev Cert.DqkvKernelIdeal.nD → PrngReg)
    (m' : (ℓ : Loc Cert.DqkvReferenceIdeal.nD Cert.DqkvReferenceIdeal.τ Cert.DqkvReferenceIdeal.sig) → Buf (Elt Ideal) ℓ) (g' : Dev Cert.DqkvReferenceIdeal.nD → PrngReg), Pre_DqkvKernelIdeal m →
    (∀ c : Dev Cert.DqkvKernelIdeal.nD,
      m' ((c.tc : Thread Cert.DqkvReferenceIdeal.nD Cert.DqkvReferenceIdeal.τ).loc Cert.DqkvReferenceIdeal.main_arg0) = m ((c.tc : Thread Cert.DqkvKernelIdeal.nD Cert.DqkvKernelIdeal.τ).loc Cert.DqkvKernelIdeal.main_arg0)
      ∧ m' ((c.tc : Thread Cert.DqkvReferenceIdeal.nD Cert.DqkvReferenceIdeal.τ).loc Cert.DqkvReferenceIdeal.main_arg1) = m ((c.tc : Thread Cert.DqkvKernelIdeal.nD Cert.DqkvKernelIdeal.τ).loc Cert.DqkvKernelIdeal.main_arg1)) →
    ∃ (v0 : (c : Dev Cert.DqkvKernelIdeal.nD) → Buf (Elt Ideal) ((c.tc : Thread Cert.DqkvKernelIdeal.nD Cert.DqkvKernelIdeal.τ).loc Cert.DqkvKernelIdeal.main_v0)),
      θ_run (Cert.DqkvKernelIdeal.defs (F := Ideal)) (onTc (τ := Cert.DqkvKernelIdeal.τ) (Cert.DqkvKernelIdeal.main (F := Ideal))) ⟨m, fun _ => 0, g⟩ (fun r => ∀ c : Dev Cert.DqkvKernelIdeal.nD,
          r.2.mem ((c.tc : Thread Cert.DqkvKernelIdeal.nD Cert.DqkvKernelIdeal.τ).loc Cert.DqkvKernelIdeal.main_v0) = v0 c
          ∧ r.2.mem ((c.tc : Thread Cert.DqkvKernelIdeal.nD Cert.DqkvKernelIdeal.τ).loc Cert.DqkvKernelIdeal.main_arg0) = m ((c.tc : Thread Cert.DqkvKernelIdeal.nD Cert.DqkvKernelIdeal.τ).loc Cert.DqkvKernelIdeal.main_arg0)
          ∧ r.2.mem ((c.tc : Thread Cert.DqkvKernelIdeal.nD Cert.DqkvKernelIdeal.τ).loc Cert.DqkvKernelIdeal.main_arg1) = m ((c.tc : Thread Cert.DqkvKernelIdeal.nD Cert.DqkvKernelIdeal.τ).loc Cert.DqkvKernelIdeal.main_arg1))
      ∧ θ_run (Cert.DqkvReferenceIdeal.defs (F := Ideal)) (onTc (τ := Cert.DqkvReferenceIdeal.τ) (Cert.DqkvReferenceIdeal.main (F := Ideal))) ⟨m', fun _ => 0, g'⟩ (fun r => ∀ c : Dev Cert.DqkvReferenceIdeal.nD,
          r.2.mem ((c.tc : Thread Cert.DqkvReferenceIdeal.nD Cert.DqkvReferenceIdeal.τ).loc Cert.DqkvReferenceIdeal.main_v36) = v0 c
          ∧ r.2.mem ((c.tc : Thread Cert.DqkvReferenceIdeal.nD Cert.DqkvReferenceIdeal.τ).loc Cert.DqkvReferenceIdeal.main_arg0) = m' ((c.tc : Thread Cert.DqkvReferenceIdeal.nD Cert.DqkvReferenceIdeal.τ).loc Cert.DqkvReferenceIdeal.main_arg0)
          ∧ r.2.mem ((c.tc : Thread Cert.DqkvReferenceIdeal.nD Cert.DqkvReferenceIdeal.τ).loc Cert.DqkvReferenceIdeal.main_arg1) = m' ((c.tc : Thread Cert.DqkvReferenceIdeal.nD Cert.DqkvReferenceIdeal.τ).loc Cert.DqkvReferenceIdeal.main_arg1))

def Claim : Prop :=
  ∃ (hOutKernel : Cert.OutKernel.Facts) (hOutKernelIdeal : Cert.OutKernelIdeal.Facts) (hOutReferenceIdeal : Cert.OutReferenceIdeal.Facts) (hQkvKernel : Cert.QkvKernel.Facts) (hQkvKernelIdeal : Cert.QkvKernelIdeal.Facts) (hQkvReferenceIdeal : Cert.QkvReferenceIdeal.Facts) (hDoKernel : Cert.DoKernel.Facts) (hDoKernelIdeal : Cert.DoKernelIdeal.Facts) (hDoReferenceIdeal : Cert.DoReferenceIdeal.Facts) (hDqkvKernel : Cert.DqkvKernel.Facts) (hDqkvKernelIdeal : Cert.DqkvKernelIdeal.Facts) (hDqkvReferenceIdeal : Cert.DqkvReferenceIdeal.Facts),
    quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_DoKernel (hDoKernel := hDoKernel)
    ∧ quiescent_DoKernelIdeal (hDoKernelIdeal := hDoKernelIdeal)
    ∧ quiescent_DoReferenceIdeal (hDoReferenceIdeal := hDoReferenceIdeal)
    ∧ quiescent_DqkvKernel (hDqkvKernel := hDqkvKernel)
    ∧ quiescent_DqkvKernelIdeal (hDqkvKernelIdeal := hDqkvKernelIdeal)
    ∧ quiescent_DqkvReferenceIdeal (hDqkvReferenceIdeal := hDqkvReferenceIdeal)
    ∧ preserves_OutKernel_OutKernelIdeal
    ∧ algebraic_OutKernelIdeal_OutReferenceIdeal (hOutKernelIdeal := hOutKernelIdeal) (hOutReferenceIdeal := hOutReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_DoKernel_DoKernelIdeal
    ∧ algebraic_DoKernelIdeal_DoReferenceIdeal (hDoKernelIdeal := hDoKernelIdeal) (hDoReferenceIdeal := hDoReferenceIdeal)
    ∧ preserves_DqkvKernel_DqkvKernelIdeal
    ∧ algebraic_DqkvKernelIdeal_DqkvReferenceIdeal (hDqkvKernelIdeal := hDqkvKernelIdeal) (hDqkvReferenceIdeal := hDqkvReferenceIdeal)
-- ==== OutKernel.lean ====
abbrev S15360x5120 : Shape := ⟨2, ![15360, 5120]⟩
abbrev S5120x5120 : Shape := ⟨2, ![5120, 5120]⟩
abbrev S1 : Shape := ⟨1, ![1]⟩
abbrev S5120 : Shape := ⟨1, ![5120]⟩
abbrev S12x1280x5120 : Shape := ⟨3, ![12, 1280, 5120]⟩
abbrev S1x5120 : Shape := ⟨2, ![1, 5120]⟩
abbrev S1024x5120 : Shape := ⟨2, ![1024, 5120]⟩
abbrev S5120x1024 : Shape := ⟨2, ![5120, 1024]⟩
abbrev S1x1024 : Shape := ⟨2, ![1, 1024]⟩
abbrev S1024x1024 : Shape := ⟨2, ![1024, 1024]⟩

abbrev nBuf : Space → Nat
  | .hbm => 8
  | .vmem => 10
  | .smem => 1
  | _ => 0

abbrev bufTy : (tb : Table) → Fin (tcTables nBuf tb) → BufTy
  | .hbm, ⟨0, _⟩ => ⟨S15360x5120, .bf16⟩
  | .hbm, ⟨1, _⟩ => ⟨S5120x5120, .bf16⟩
  | .hbm, ⟨2, _⟩ => ⟨S1, .f32⟩
  | .hbm, ⟨3, _⟩ => ⟨S5120, .f32⟩
  | .hbm, ⟨4, _⟩ => ⟨S12x1280x5120, .bf16⟩
  | .hbm, ⟨5, _⟩ => ⟨S15360x5120, .bf16⟩
  | .hbm, ⟨6, _⟩ => ⟨S1x5120, .f32⟩
  | .hbm, ⟨7, _⟩ => ⟨S15360x5120, .bf16⟩
  | .local _ .vmem, ⟨0, _⟩ => ⟨S1024x5120, .bf16⟩
  | .local _ .vmem, ⟨1, _⟩ => ⟨S1024x5120, .bf16⟩
  | .local _ .vmem, ⟨2, _⟩ => ⟨S5120x1024, .bf16⟩
  | .local _ .vmem, ⟨3, _⟩ => ⟨S5120x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .smem, ⟨0, _⟩ => ⟨S1, .f32⟩
  | _, _ => ⟨S15360x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![15, 5], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S15360x5120 : Shape := ⟨2, ![15360, 5120]⟩
abbrev S5120x5120 : Shape := ⟨2, ![5120, 5120]⟩
abbrev S1 : Shape := ⟨1, ![1]⟩
abbrev S5120 : Shape := ⟨1, ![5120]⟩
abbrev S12x1280x5120 : Shape := ⟨3, ![12, 1280, 5120]⟩
abbrev S1x1 : Shape := ⟨2, ![1, 1]⟩
abbrev S1x5120 : Shape := ⟨2, ![1, 5120]⟩

abbrev nBuf : Space → Nat
  | .hbm => 16
  | .vmem => 0
  | .smem => 0
  | _ => 0

abbrev bufTy : (tb : Table) → Fin (tcTables nBuf tb) → BufTy
  | .hbm, ⟨0, _⟩ => ⟨S15360x5120, .bf16⟩
  | .hbm, ⟨1, _⟩ => ⟨S5120x5120, .bf16⟩
  | .hbm, ⟨2, _⟩ => ⟨S1, .f32⟩
  | .hbm, ⟨3, _⟩ => ⟨S5120, .f32⟩
  | .hbm, ⟨4, _⟩ => ⟨S12x1280x5120, .bf16⟩
  | .hbm, ⟨5, _⟩ => ⟨S15360x5120, .f32⟩
  | .hbm, ⟨6, _⟩ => ⟨S1x1, .f32⟩
  | .hbm, ⟨7, _⟩ => ⟨S15360x5120, .f32⟩
  | .hbm, ⟨8, _⟩ => ⟨S15360x5120, .f32⟩
  | .hbm, ⟨9, _⟩ => ⟨S1x5120, .f32⟩
  | .hbm, ⟨10, _⟩ => ⟨S15360x5120, .f32⟩
  | .hbm, ⟨11, _⟩ => ⟨S15360x5120, .f32⟩
  | .hbm, ⟨12, _⟩ => ⟨S15360x5120, .bf16⟩
  | .hbm, ⟨13, _⟩ => ⟨S15360x5120, .f32⟩
  | .hbm, ⟨14, _⟩ => ⟨S15360x5120, .f32⟩
  | .hbm, ⟨15, _⟩ => ⟨S15360x5120, .bf16⟩
  | _, _ => ⟨S15360x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== QkvKernel.lean ====
abbrev S12x1280x5120 : Shape := ⟨3, ![12, 1280, 5120]⟩
abbrev S5120 : Shape := ⟨1, ![5120]⟩
abbrev S6400x5120 : Shape := ⟨2, ![6400, 5120]⟩
abbrev S1 : Shape := ⟨1, ![1]⟩
abbrev S6400 : Shape := ⟨1, ![6400]⟩
abbrev S12 : Shape := ⟨1, ![12]⟩
abbrev S15360x5120 : Shape := ⟨2, ![15360, 5120]⟩
abbrev S32 : Shape := ⟨1, ![32]⟩
abbrev S_ : Shape := ⟨0, ![]⟩
abbrev S32x1 : Shape := ⟨2, ![32, 1]⟩
abbrev S32x128 : Shape := ⟨2, ![32, 128]⟩
abbrev S1x5120 : Shape := ⟨2, ![1, 5120]⟩
abbrev S6400x1 : Shape := ⟨2, ![6400, 1]⟩
abbrev S6400x15360 : Shape := ⟨2, ![6400, 15360]⟩
abbrev S1280x15360 : Shape := ⟨2, ![1280, 15360]⟩
abbrev S128x5120 : Shape := ⟨2, ![128, 5120]⟩
abbrev S640x5120 : Shape := ⟨2, ![640, 5120]⟩
abbrev S640x1 : Shape := ⟨2, ![640, 1]⟩
abbrev S640x1024 : Shape := ⟨2, ![640, 1024]⟩
abbrev S2x1024x5120 : Shape := ⟨3, ![2, 1024, 5120]⟩
abbrev S2x2x8x32x128 : Shape := ⟨5, ![2, 2, 8, 32, 128]⟩
abbrev S128 : Shape := ⟨1, ![128]⟩
abbrev S128x1 : Shape := ⟨2, ![128, 1]⟩
abbrev S1x128x5120 : Shape := ⟨3, ![1, 128, 5120]⟩
abbrev S1x1x1x32x128 : Shape := ⟨5, ![1, 1, 1, 32, 128]⟩
abbrev S1x1024x5120 : Shape := ⟨3, ![1, 1024, 5120]⟩
abbrev S1024x5120 : Shape := ⟨2, ![1024, 5120]⟩

abbrev nBuf : Space → Nat
  | .hbm => 24
  | .vmem => 14
  | .smem => 2
  | _ => 0

abbrev bufTy : (tb : Table) → Fin (tcTables nBuf tb) → BufTy
  | .hbm, ⟨0, _⟩ => ⟨S12x1280x5120, .bf16⟩
  | .hbm, ⟨1, _⟩ => ⟨S5120, .f32⟩
  | .hbm, ⟨2, _⟩ => ⟨S6400x5120, .bf16⟩
  | .hbm, ⟨3, _⟩ => ⟨S1, .f32⟩
  | .hbm, ⟨4, _⟩ => ⟨S6400, .f32⟩
  | .hbm, ⟨5, _⟩ => ⟨S12, .i32⟩
  | .hbm, ⟨6, _⟩ => ⟨S15360x5120, .bf16⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S32x128, .f32⟩
  | .hbm, ⟨20, _⟩ => ⟨S1x5120, .f32⟩
  | .hbm, ⟨21, _⟩ => ⟨S6400x1, .f32⟩
  | .hbm, ⟨22, _⟩ => ⟨S6400x15360, .bf16⟩
  | .hbm, ⟨23, _⟩ => ⟨S1280x15360, .f32⟩
  | .local _ .vmem, ⟨0, _⟩ => ⟨S128x5120, .bf16⟩
  | .local _ .vmem, ⟨1, _⟩ => ⟨S128x5120, .bf16⟩
  | .local _ .vmem, ⟨2, _⟩ => ⟨S1x5120, .f32⟩
  | .local _ .vmem, ⟨3, _⟩ => ⟨S640x5120, .bf16⟩
  | .local _ .vmem, ⟨4, _⟩ => ⟨S640x5120, .bf16⟩
  | .local _ .vmem, ⟨5, _⟩ => ⟨S640x1, .f32⟩
  | .local _ .vmem, ⟨6, _⟩ => ⟨S640x1, .f32⟩
  | .local _ .vmem, ⟨7, _⟩ => ⟨S32x128, .f32⟩
  | .local _ .vmem, ⟨8, _⟩ => ⟨S640x1024, .bf16⟩
  | .local _ .vmem, ⟨9, _⟩ => ⟨S640x1024, .bf16⟩
  | .local _ .vmem, ⟨10, _⟩ => ⟨S640x1024, .f32⟩
  | .local _ .vmem, ⟨11, _⟩ => ⟨S640x1024, .f32⟩
  | .local _ .vmem, ⟨12, _⟩ => ⟨S2x1024x5120, .bf16⟩
  | .local _ .vmem, ⟨13, _⟩ => ⟨S2x2x8x32x128, .f32⟩
  | .local _ .smem, ⟨0, _⟩ => ⟨S12, .i32⟩
  | .local _ .smem, ⟨1, _⟩ => ⟨S1, .f32⟩
  | _, _ => ⟨S12x1280x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c8_i32 : BitVec 32 := 8#32
  let v8 : BitVec 32 := Scalar.remsi arg1 c8_i32
  let c128_i32 : BitVec 32 := 128#32
  let v9 : BitVec 32 := Scalar.muli v8 c128_i32
  v9
def k0_off1 (i : grid0.Coords) : Fin 3 → Nat :=
  let arg0 : BitVec 32 := BitVec.ofNat 32 (i 0).val
  let c2_i32 : BitVec 32 := 2#32
  let v0 : BitVec 32 := Scalar.remsi arg0 c2_i32
  let v29 : Index := Scalar.indexCast v0
  let arg1 : BitVec 32 := BitVec.ofNat 32 (i 1).val
  let c8_i32 : BitVec 32 := 8#32
  let v8 : BitVec 32 := Scalar.remsi arg1 c8_i32
  let c128_i32 : BitVec 32 := 128#32
  let v9 : BitVec 32 := Scalar.muli v8 c128_i32
  let v10 : BitVec 32 := v9
  let v30 : Index := Scalar.indexCast v10
  let c0_8 : Index := 0#32
  ![v29.toNat, v30.toNat, 0]
def k0_off2 (i : grid0.Coords) : Fin 1 → Nat :=
  let arg0 : BitVec 32 := BitVec.ofNat 32 (i 0).val
  let c14_i32 : BitVec 32 := 14#32
  let v34 : BitVec 32 := Scalar.minsi arg0 c14_i32
  let c8_i32_9 : BitVec 32 := 8#32
  let v35 : BitVec 32 := Scalar.muli v34 c8_i32_9
  let arg1 : BitVec 32 := BitVec.ofNat 32 (i 1).val
  let c8_i32 : BitVec 32 := 8#32
  let v8 : BitVec 32 := Scalar.remsi arg1 c8_i32
  let v36 : BitVec 32 := Scalar.addi v35 v8
  let c0_i32_10 : BitVec 32 := 0#32
  let v38 : BitVec 1 := Scalar.cmpi .sgt v36 c0_i32_10
  let v39 : BitVec 32 := Scalar.extui v38
  let c0_i32_11 : BitVec 32 := 0#32
  let v40 : BitVec 1 := Scalar.cmpi .slt v36 c0_i32_11
  let v41 : BitVec 32 := Scalar.extui v40
  let v42 : BitVec 32 := Scalar.subi v39 v41
  let c10_i32 : BitVec 32 := 10#32
  let c0_i32_12 : BitVec 32 := 0#32
  let v43 : BitVec 1 := Scalar.cmpi .sgt c10_i32 c0_i32_12
  let v44 : BitVec 32 := Scalar.extui v43
  let c0_i32_13 : BitVec 32 := 0#32
  let v45 : BitVec 1 := Scalar.cmpi .slt c10_i32 c0_i32_13
  let v46 : BitVec 32 := Scalar.extui v45
  let v47 : BitVec 32 := Scalar.subi v44 v46
  let v48 : BitVec 1 := Scalar.cmpi .ne v42 v47
  let v49 : BitVec 32 := Scalar.remsi v36 c10_i32
  let c0_i32_14 : BitVec 32 := 0#32
  let v50 : BitVec 1 := Scalar.cmpi .ne v49 c0_i32_14
  let v51 : BitVec 1 := Scalar.andi v48 v50
  let v37 : BitVec 32 := Scalar.divsi v36 c10_i32
  let c1_i32_15 : BitVec 32 := 1#32
  let v52 : BitVec 32 := Scalar.subi v37 c1_i32_15
  let v53 : BitVec 32 := Scalar.select v51 v52 v37
  let v54 : Index := Scalar.indexCast v53
  ![v54.toNat]
def k0_off3 (i : grid0.Coords) : Fin 5 → Nat :=
  let arg0 : BitVec 32 := BitVec.ofNat 32 (i 0).val
  let c2_i32 : BitVec 32 := 2#32
  let v0 : BitVec 32 := Scalar.remsi arg0 c2_i32
  let v68 : Index := Scalar.indexCast v0
  let c0_20 : Index := 0#32
  let arg1 : BitVec 32 := BitVec.ofNat 32 (i 1).val
  let c8_i32 : BitVec 32 := 8#32
  let v8 : BitVec 32 := Scalar.remsi arg1 c8_i32
  let v69 : Index := Scalar.indexCast v8
  let c0_21 : Index := 0#32
  let c0_22 : Index := 0#32
  ![v68.toNat, 0, v69.toNat, 0, 0]
def k0_off4 (i : grid0.Coords) : Fin 5 → Nat :=
  let arg0 : BitVec 32 := BitVec.ofNat 32 (i 0).val
  let c2_i32 : BitVec 32 := 2#32
  let v0 : BitVec 32 := Scalar.remsi arg0 c2_i32
  let v74 : Index := Scalar.indexCast v0
  let c1 : Index := 1#32
  let arg1 : BitVec 32 := BitVec.ofNat 32 (i 1).val
  let c8_i32 : BitVec 32 := 8#32
  let v8 : BitVec 32 := Scalar.remsi arg1 c8_i32
  let v75 : Index := Scalar.indexCast v8
  let c0_23 : Index := 0#32
  let c0_24 : Index := 0#32
  ![v74.toNat, 1, v75.toNat, 0, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v13 : Index := Scalar.indexCast v1
  let c0_6 : Index := 0#32
  let c0_7 : Index := 0#32
  ![v13.toNat, 0, 0]
def k0_off6 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v17 : Index := Scalar.indexCast v1
  let c0_9 : Index := 0#32
  let c0_10 : Index := 0#32
  let c0_11 : Index := 0#32
  let c0_12 : Index := 0#32
  ![v17.toNat, 0, 0, 0, 0]
def k0_off7 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v24 : Index := Scalar.indexCast v1
  let c1 : Index := 1#32
  let c0_14 : Index := 0#32
  let c0_15 : Index := 0#32
  let c0_16 : Index := 0#32
  ![v24.toNat, 1, 0, 0, 0]
def k0_off8 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v291 : Index := Scalar.indexCast v1
  let c0_119 : Index := 0#32
  let c1_120 : Index := 1#32
  let c0_121 : Index := 0#32
  let c0_122 : Index := 0#32
  ![v291.toNat, 0, 1, 0, 0]
def k0_off9 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v298 : Index := Scalar.indexCast v1
  let c1_124 : Index := 1#32
  let c1_125 : Index := 1#32
  let c0_126 : Index := 0#32
  let c0_127 : Index := 0#32
  ![v298.toNat, 1, 1, 0, 0]
def k0_off10 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v565 : Index := Scalar.indexCast v1
  let c0_249 : Index := 0#32
  let c2 : Index := 2#32
  let c0_250 : Index := 0#32
  let c0_251 : Index := 0#32
  ![v565.toNat, 0, 2, 0, 0]
def k0_off11 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v572 : Index := Scalar.indexCast v1
  let c1_253 : Index := 1#32
  let c2_254 : Index := 2#32
  let c0_255 : Index := 0#32
  let c0_256 : Index := 0#32
  ![v572.toNat, 1, 2, 0, 0]
def k0_off12 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v839 : Index := Scalar.indexCast v1
  let c0_378 : Index := 0#32
  let c3 : Index := 3#32
  let c0_379 : Index := 0#32
  let c0_380 : Index := 0#32
  ![v839.toNat, 0, 3, 0, 0]
def k0_off13 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v846 : Index := Scalar.indexCast v1
  let c1_382 : Index := 1#32
  let c3_383 : Index := 3#32
  let c0_384 : Index := 0#32
  let c0_385 : Index := 0#32
  ![v846.toNat, 1, 3, 0, 0]
def k0_off14 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1113 : Index := Scalar.indexCast v1
  let c0_507 : Index := 0#32
  let c4 : Index := 4#32
  let c0_508 : Index := 0#32
  let c0_509 : Index := 0#32
  ![v1113.toNat, 0, 4, 0, 0]
def k0_off15 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1120 : Index := Scalar.indexCast v1
  let c1_511 : Index := 1#32
  let c4_512 : Index := 4#32
  let c0_513 : Index := 0#32
  let c0_514 : Index := 0#32
  ![v1120.toNat, 1, 4, 0, 0]
def k0_off16 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1387 : Index := Scalar.indexCast v1
  let c0_636 : Index := 0#32
  let c5 : Index := 5#32
  let c0_637 : Index := 0#32
  let c0_638 : Index := 0#32
  ![v1387.toNat, 0, 5, 0, 0]
def k0_off17 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1394 : Index := Scalar.indexCast v1
  let c1_640 : Index := 1#32
  let c5_641 : Index := 5#32
  let c0_642 : Index := 0#32
  let c0_643 : Index := 0#32
  ![v1394.toNat, 1, 5, 0, 0]
def k0_off18 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1661 : Index := Scalar.indexCast v1
  let c0_764 : Index := 0#32
  let c6 : Index := 6#32
  let c0_765 : Index := 0#32
  let c0_766 : Index := 0#32
  ![v1661.toNat, 0, 6, 0, 0]
def k0_off19 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1668 : Index := Scalar.indexCast v1
  let c1_768 : Index := 1#32
  let c6_769 : Index := 6#32
  let c0_770 : Index := 0#32
  let c0_771 : Index := 0#32
  ![v1668.toNat, 1, 6, 0, 0]
def k0_off20 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1935 : Index := Scalar.indexCast v1
  let c0_892 : Index := 0#32
  let c7 : Index := 7#32
  let c0_893 : Index := 0#32
  let c0_894 : Index := 0#32
  ![v1935.toNat, 0, 7, 0, 0]
def k0_off21 (i : grid0.Coords) : Fin 5 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v1942 : Index := Scalar.indexCast v1
  let c1_896 : Index := 1#32
  let c7_897 : Index := 7#32
  let c0_898 : Index := 0#32
  let c0_899 : Index := 0#32
  ![v1942.toNat, 1, 7, 0, 0]
def k0_mult2 (i : grid0.Coords) : BitVec 32 :=
  let arg1 : BitVec 32 := BitVec.ofNat 32 (i 1).val
  let c8_i32_1020 : BitVec 32 := 8#32
  let v2209 : BitVec 32 := Scalar.remsi arg1 c8_i32_1020
  let c128_i32 : BitVec 32 := 128#32
  let v2210 : BitVec 32 := Scalar.muli v2209 c128_i32
  v2210
def k0_off22 (i : grid0.Coords) : Fin 3 → Nat :=
  let arg0 : BitVec 32 := BitVec.ofNat 32 (i 0).val
  let c2_i32 : BitVec 32 := 2#32
  let v0 : BitVec 32 := Scalar.remsi arg0 c2_i32
  let v2230 : Index := Scalar.indexCast v0
  let arg1 : BitVec 32 := BitVec.ofNat 32 (i 1).val
  let c8_i32_1020 : BitVec 32 := 8#32
  let v2209 : BitVec 32 := Scalar.remsi arg1 c8_i32_1020
  let c128_i32 : BitVec 32 := 128#32
  let v2210 : BitVec 32 := Scalar.muli v2209 c128_i32
  let v2211 : BitVec 32 := v2210
  let v2231 : Index := Scalar.indexCast v2211
  let c0_1028 : Index := 0#32
  ![v2230.toNat, v2231.toNat, 0]
def k0_off23 (i : grid0.Coords) : Fin 1 → Nat :=
  let arg0 : BitVec 32 := BitVec.ofNat 32 (i 0).val
  let c14_i32 : BitVec 32 := 14#32
  let v2235 : BitVec 32 := Scalar.minsi arg0 c14_i32
  let c8_i32_1029 : BitVec 32 := 8#32
  let v2236 : BitVec 32 := Scalar.muli v2235 c8_i32_1029
  let arg1 : BitVec 32 := BitVec.ofNat 32 (i 1).val
  let c8_i32_1020 : BitVec 32 := 8#32
  let v2209 : BitVec 32 := Scalar.remsi arg1 c8_i32_1020
  let v2237 : BitVec 32 := Scalar.addi v2236 v2209
  let c0_i32_1030 : BitVec 32 := 0#32
  let v2239 : BitVec 1 := Scalar.cmpi .sgt v2237 c0_i32_1030
  let v2240 : BitVec 32 := Scalar.extui v2239
  let c0_i32_1031 : BitVec 32 := 0#32
  let v2241 : BitVec 1 := Scalar.cmpi .slt v2237 c0_i32_1031
  let v2242 : BitVec 32 := Scalar.extui v2241
  let v2243 : BitVec 32 := Scalar.subi v2240 v2242
  let c10_i32 : BitVec 32 := 10#32
  let c0_i32_1032 : BitVec 32 := 0#32
  let v2244 : BitVec 1 := Scalar.cmpi .sgt c10_i32 c0_i32_1032
  let v2245 : BitVec 32 := Scalar.extui v2244
  let c0_i32_1033 : BitVec 32 := 0#32
  let v2246 : BitVec 1 := Scalar.cmpi .slt c10_i32 c0_i32_1033
  let v2247 : BitVec 32 := Scalar.extui v2246
  let v2248 : BitVec 32 := Scalar.subi v2245 v2247
  let v2249 : BitVec 1 := Scalar.cmpi .ne v2243 v2248
  let v2250 : BitVec 32 := Scalar.remsi v2237 c10_i32
  let c0_i32_1034 : BitVec 32 := 0#32
  let v2251 : BitVec 1 := Scalar.cmpi .ne v2250 c0_i32_1034
  let v2252 : BitVec 1 := Scalar.andi v2249 v2251
  let v2238 : BitVec 32 := Scalar.divsi v2237 c10_i32
  let c1_i32_1035 : BitVec 32 := 1#32
  let v2253 : BitVec 32 := Scalar.subi v2238 c1_i32_1035
  let v2254 : BitVec 32 := Scalar.select v2252 v2253 v2238
  let v2255 : Index := Scalar.indexCast v2254
  ![v2255.toNat]
def k0_off24 (i : grid0.Coords) : Fin 5 → Nat :=
  let arg0 : BitVec 32 := BitVec.ofNat 32 (i 0).val
  let c2_i32 : BitVec 32 := 2#32
  let v0 : BitVec 32 := Scalar.remsi arg0 c2_i32
  let v2269 : Index := Scalar.indexCast v0
  let c0_1040 : Index := 0#32
  let arg1 : BitVec 32 := BitVec.ofNat 32 (i 1).val
  let c8_i32_1020 : BitVec 32 := 8#32
  let v2209 : BitVec 32 := Scalar.remsi arg1 c8_i32_1020
  let v2270 : Index := Scalar.indexCast v2209
  let c0_1041 : Index := 0#32
  let c0_1042 : Index := 0#32
  ![v2269.toNat, 0, v2270.toNat, 0, 0]
def k0_off25 (i : grid0.Coords) : Fin 5 → Nat :=
  let arg0 : BitVec 32 := BitVec.ofNat 32 (i 0).val
  let c2_i32 : BitVec 32 := 2#32
  let v0 : BitVec 32 := Scalar.remsi arg0 c2_i32
  let v2275 : Index := Scalar.indexCast v0
  let c1_1043 : Index := 1#32
  let arg1 : BitVec 32 := BitVec.ofNat 32 (i 1).val
  let c8_i32_1020 : BitVec 32 := 8#32
  let v2209 : BitVec 32 := Scalar.remsi arg1 c8_i32_1020
  let v2276 : Index := Scalar.indexCast v2209
  let c0_1044 : Index := 0#32
  let c0_1045 : Index := 0#32
  ![v2275.toNat, 1, v2276.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.minsi arg0 c14_i32
  let c8_i32 : BitVec 32 := 8#32
  let v1 : BitVec 32 := Scalar.muli v0 c8_i32
  let c8_i32_0 : BitVec 32 := 8#32
  let v2 : BitVec 32 := Scalar.remsi arg1 c8_i32_0
  let v3 : BitVec 32 := Scalar.addi v1 v2
  let c0_i32 : BitVec 32 := 0#32
  let c0_i32_1 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.subi arg1 c8_i32
  let c0_i32_0 : BitVec 32 := 0#32
  let v2 : BitVec 32 := Scalar.maxsi v1 c0_i32_0
  let c0_i32_1 : BitVec 32 := 0#32
  let v3 : BitVec 32 := Scalar.select v0 c0_i32_1 v2
  let c1_i32 : BitVec 32 := 1#32
  let v4 : BitVec 32 := Scalar.subi arg0 c1_i32
  let c0_i32_2 : BitVec 32 := 0#32
  let v5 : BitVec 32 := Scalar.maxsi v4 c0_i32_2
  let c0_i32_3 : BitVec 32 := 0#32
  ![v3.toNat, v5.toNat]

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvReferenceIdeal.lean ====
abbrev S12x1280x5120 : Shape := ⟨3, ![12, 1280, 5120]⟩
abbrev S5120 : Shape := ⟨1, ![5120]⟩
abbrev S6400x5120 : Shape := ⟨2, ![6400, 5120]⟩
abbrev S1 : Shape := ⟨1, ![1]⟩
abbrev S6400 : Shape := ⟨1, ![6400]⟩
abbrev S12 : Shape := ⟨1, ![12]⟩
abbrev S_ : Shape := ⟨0, ![]⟩
abbrev S12x1280 : Shape := ⟨2, ![12, 1280]⟩
abbrev S12x1280x1 : Shape := ⟨3, ![12, 1280, 1]⟩
abbrev S1x1x5120 : Shape := ⟨3, ![1, 1, 5120]⟩
abbrev S12x1280x6400 : Shape := ⟨3, ![12, 1280, 6400]⟩
abbrev S1x1x1 : Shape := ⟨3, ![1, 1, 1]⟩
abbrev S1x1x6400 : Shape := ⟨3, ![1, 1, 6400]⟩
abbrev S12x1280x80x64 : Shape := ⟨4, ![12, 1280, 80, 64]⟩
abbrev S12x1280x640 : Shape := ⟨3, ![12, 1280, 640]⟩
abbrev S12x1280x10x64 : Shape := ⟨4, ![12, 1280, 10, 64]⟩
abbrev S12x1 : Shape := ⟨2, ![12, 1]⟩
abbrev S1280 : Shape := ⟨1, ![1280]⟩
abbrev S1x1280 : Shape := ⟨2, ![1, 1280]⟩
abbrev S32 : Shape := ⟨1, ![32]⟩
abbrev S1x1x32 : Shape := ⟨3, ![1, 1, 32]⟩
abbrev S12x1280x32 : Shape := ⟨3, ![12, 1280, 32]⟩
abbrev S12x1280x1x32 : Shape := ⟨4, ![12, 1280, 1, 32]⟩
abbrev S12x1280x80x32 : Shape := ⟨4, ![12, 1280, 80, 32]⟩
abbrev S15360x5120 : Shape := ⟨2, ![15360, 5120]⟩
abbrev S12x1280x10x32 : Shape := ⟨4, ![12, 1280, 10, 32]⟩
abbrev S15360x640 : Shape := ⟨2, ![15360, 640]⟩
abbrev S15360x6400 : Shape := ⟨2, ![15360, 6400]⟩
abbrev S6400x15360 : Shape := ⟨2, ![6400, 15360]⟩
abbrev S15360x1280 : Shape := ⟨2, ![15360, 1280]⟩
abbrev S1280x15360 : Shape := ⟨2, ![1280, 15360]⟩

abbrev nBuf : Space → Nat
  | .hbm => 100
  | .vmem => 0
  | .smem => 0
  | _ => 0

abbrev bufTy : (tb : Table) → Fin (tcTables nBuf tb) → BufTy
  | .hbm, ⟨0, _⟩ => ⟨S12x1280x5120, .bf16⟩
  | .hbm, ⟨1, _⟩ => ⟨S5120, .f32⟩
  | .hbm, ⟨2, _⟩ => ⟨S6400x5120, .bf16⟩
  | .hbm, ⟨3, _⟩ => ⟨S1, .f32⟩
  | .hbm, ⟨4, _⟩ => ⟨S6400, .f32⟩
  | .hbm, ⟨5, _⟩ => ⟨S12, .i32⟩
  | .hbm, ⟨6, _⟩ => ⟨S12x1280x5120, .f32⟩
  | .hbm, ⟨7, _⟩ => ⟨S12x1280x5120, .f32⟩
  | .hbm, ⟨8, _⟩ => ⟨S_, .f32⟩
  | .hbm, ⟨9, _⟩ => ⟨S12x1280, .f32⟩
  | .hbm, ⟨10, _⟩ => ⟨S12x1280x1, .f32⟩
  | .hbm, ⟨11, _⟩ => ⟨S_, .f32⟩
  | .hbm, ⟨12, _⟩ => ⟨S12x1280x1, .f32⟩
  | .hbm, ⟨13, _⟩ => ⟨S12x1280x1, .f32⟩
  | .hbm, ⟨14, _⟩ => ⟨S_, .f32⟩
  | .hbm, ⟨15, _⟩ => ⟨S12x1280x1, .f32⟩
  | .hbm, ⟨16, _⟩ => ⟨S12x1280x1, .f32⟩
  | .hbm, ⟨17, _⟩ => ⟨S12x1280x1, .f32⟩
  | .hbm, ⟨18, _⟩ => ⟨S12x1280x5120, .f32⟩
  | .hbm, ⟨19, _⟩ => ⟨S12x1280x5120, .f32⟩
  | .hbm, ⟨20, _⟩ => ⟨S1x1x5120, .f32⟩
  | .hbm, ⟨21, _⟩ => ⟨S12x1280x5120, .f32⟩
  | .hbm, ⟨22, _⟩ => ⟨S12x1280x5120, .f32⟩
  | .hbm, ⟨23, _⟩ => ⟨S12x1280x5120, .bf16⟩
  | .hbm, ⟨24, _⟩ => ⟨S12x1280x6400, .f32⟩
  | .hbm, ⟨25, _⟩ => ⟨S1x1x1, .f32⟩
  | .hbm, ⟨26, _⟩ => ⟨S12x1280x6400, .f32⟩
  | .hbm, ⟨27, _⟩ => ⟨S12x1280x6400, .f32⟩
  | .hbm, ⟨28, _⟩ => ⟨S1x1x6400, .f32⟩
  | .hbm, ⟨29, _⟩ => ⟨S12x1280x6400, .f32⟩
  | .hbm, ⟨30, _⟩ => ⟨S12x1280x6400, .f32⟩
  | .hbm, ⟨31, _⟩ => ⟨S12x1280x5120, .f32⟩
  | .hbm, ⟨32, _⟩ => ⟨S12x1280x80x64, .f32⟩
  | .hbm, ⟨33, _⟩ => ⟨S12x1280x640, .f32⟩
  | .hbm, ⟨34, _⟩ => ⟨S12x1280x10x64, .f32⟩
  | .hbm, ⟨35, _⟩ => ⟨S12x1280x640, .f32⟩
  | .hbm, ⟨36, _⟩ => ⟨S12x1, .i32⟩
  | .hbm, ⟨37, _⟩ => ⟨S1280, .i32⟩
  | .hbm, ⟨38, _⟩ => ⟨S1x1280, .i32⟩
  | .hbm, ⟨39, _⟩ => ⟨S12x1280, .i32⟩
  | .hbm, ⟨40, _⟩ => ⟨S12x1280, .i32⟩
  | .hbm, ⟨41, _⟩ => ⟨S12x1280, .i32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S12x1280, .f32⟩
  | .hbm, ⟨54, _⟩ => ⟨S12x1280x1, .f32⟩
  | .hbm, ⟨55, _⟩ => ⟨S1x1x32, .f32⟩
  | .hbm, ⟨56, _⟩ => ⟨S12x1280x32, .f32⟩
  | .hbm, ⟨57, _⟩ => ⟨S12x1280x32, .f32⟩
  | .hbm, ⟨58, _⟩ => ⟨S12x1280x32, .f32⟩
  | .hbm, ⟨59, _⟩ => ⟨S12x1280x32, .f32⟩
  | .hbm, ⟨60, _⟩ => ⟨S12x1280x1x32, .f32⟩
  | .hbm, ⟨61, _⟩ => ⟨S12x1280x32, .f32⟩
  | .hbm, ⟨62, _⟩ => ⟨S12x1280x1x32, .f32⟩
  | .hbm, ⟨63, _⟩ => ⟨S12x1280x80x32, .f32⟩
  | .hbm, ⟨64, _⟩ => ⟨S12x1280x80x32, .f32⟩
  | .hbm, ⟨65, _⟩ => ⟨S12x1280x80x32, .f32⟩
  | .hbm, ⟨66, _⟩ => ⟨S12x1280x80x32, .f32⟩
  | .hbm, ⟨67, _⟩ => ⟨S12x1280x80x32, .f32⟩
  | .hbm, ⟨68, _⟩ => ⟨S12x1280x80x32, .f32⟩
  | .hbm, ⟨69, _⟩ => ⟨S12x1280x80x32, .f32⟩
  | .hbm, ⟨70, _⟩ => ⟨S12x1280x80x32, .f32⟩
  | .hbm, ⟨71, _⟩ => ⟨S12x1280x80x32, .f32⟩
  | .hbm, ⟨72, _⟩ => ⟨S12x1280x80x32, .f32⟩
  | .hbm, ⟨73, _⟩ => ⟨S12x1280x80x32, .f32⟩
  | .hbm, ⟨74, _⟩ => ⟨S12x1280x80x32, .f32⟩
  | .hbm, ⟨75, _⟩ => ⟨S12x1280x80x64, .f32⟩
  | .hbm, ⟨76, _⟩ => ⟨S_, .f32⟩
  | .hbm, ⟨77, _⟩ => ⟨S12x1280x80x64, .f32⟩
  | .hbm, ⟨78, _⟩ => ⟨S12x1280x80x64, .f32⟩
  | .hbm, ⟨79, _⟩ => ⟨S15360x5120, .f32⟩
  | .hbm, ⟨80, _⟩ => ⟨S12x1280x10x32, .f32⟩
  | .hbm, ⟨81, _⟩ => ⟨S12x1280x10x32, .f32⟩
  | .hbm, ⟨82, _⟩ => ⟨S12x1280x10x32, .f32⟩
  | .hbm, ⟨83, _⟩ => ⟨S12x1280x10x32, .f32⟩
  | .hbm, ⟨84, _⟩ => ⟨S12x1280x10x32, .f32⟩
  | .hbm, ⟨85, _⟩ => ⟨S12x1280x10x32, .f32⟩
  | .hbm, ⟨86, _⟩ => ⟨S12x1280x10x32, .f32⟩
  | .hbm, ⟨87, _⟩ => ⟨S12x1280x10x32, .f32⟩
  | .hbm, ⟨88, _⟩ => ⟨S12x1280x10x32, .f32⟩
  | .hbm, ⟨89, _⟩ => ⟨S12x1280x10x32, .f32⟩
  | .hbm, ⟨90, _⟩ => ⟨S12x1280x10x32, .f32⟩
  | .hbm, ⟨91, _⟩ => ⟨S12x1280x10x32, .f32⟩
  | .hbm, ⟨92, _⟩ => ⟨S12x1280x10x64, .f32⟩
  | .hbm, ⟨93, _⟩ => ⟨S15360x640, .f32⟩
  | .hbm, ⟨94, _⟩ => ⟨S15360x640, .f32⟩
  | .hbm, ⟨95, _⟩ => ⟨S15360x6400, .f32⟩
  | .hbm, ⟨96, _⟩ => ⟨S15360x6400, .bf16⟩
  | .hbm, ⟨97, _⟩ => ⟨S6400x15360, .bf16⟩
  | .hbm, ⟨98, _⟩ => ⟨S15360x1280, .f32⟩
  | .hbm, ⟨99, _⟩ => ⟨S1280x15360, .f32⟩
  | _, _ => ⟨S12x1280x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_5 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩

abbrev nD : Nat := 1
abbrev τ : Topo := Topo.v7x

variable {F : FTy → Type} [FloatOps F]
-- ==== DoKernel.lean ====
abbrev S2560x5120 : Shape := ⟨2, ![2560, 5120]⟩
abbrev S320x5120 : Shape := ⟨2, ![320, 5120]⟩
abbrev S5120x5120 : Shape := ⟨2, ![5120, 5120]⟩
abbrev S256x640 : Shape := ⟨2, ![256, 640]⟩
abbrev S32x640 : Shape := ⟨2, ![32, 640]⟩
abbrev S512x640 : Shape := ⟨2, ![512, 640]⟩
abbrev S32x128 : Shape := ⟨2, ![32, 128]⟩
abbrev S4x128 : Shape := ⟨2, ![4, 128]⟩
abbrev S8x128 : Shape := ⟨2, ![8, 128]⟩
abbrev S1x128 : Shape := ⟨2, ![1, 128]⟩
abbrev S16x128 : Shape := ⟨2, ![16, 128]⟩
abbrev S64x128 : Shape := ⟨2, ![64, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S2560x5120, .i8⟩
  | .hbm, ⟨1, _⟩ => ⟨S320x5120, .fp8e4m3⟩
  | .hbm, ⟨2, _⟩ => ⟨S5120x5120, .bf16⟩
  | .local _ .vmem, ⟨0, _⟩ => ⟨S256x640, .i8⟩
  | .local _ .vmem, ⟨1, _⟩ => ⟨S256x640, .i8⟩
  | .local _ .vmem, ⟨2, _⟩ => ⟨S32x640, .fp8e4m3⟩
  | .local _ .vmem, ⟨3, _⟩ => ⟨S32x640, .fp8e4m3⟩
  | .local _ .vmem, ⟨4, _⟩ => ⟨S512x640, .bf16⟩
  | .local _ .vmem, ⟨5, _⟩ => ⟨S512x640, .bf16⟩
  | _, _ => ⟨S2560x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x640 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x640 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DoKernelIdeal.lean ====
variable {F : FTy → Type} [FloatOps F]
-- ==== DoReferenceIdeal.lean ====
abbrev S2560x5120 : Shape := ⟨2, ![2560, 5120]⟩
abbrev S320x5120 : Shape := ⟨2, ![320, 5120]⟩
abbrev S_ : Shape := ⟨0, ![]⟩
abbrev S2560x1x5120 : Shape := ⟨3, ![2560, 1, 5120]⟩
abbrev S2560x2x5120 : Shape := ⟨3, ![2560, 2, 5120]⟩
abbrev S5120x5120 : Shape := ⟨2, ![5120, 5120]⟩
abbrev S320x16x5120 : Shape := ⟨3, ![320, 16, 5120]⟩
abbrev S320x1x5120 : Shape := ⟨3, ![320, 1, 5120]⟩

abbrev nBuf : Space → Nat
  | .hbm => 65
  | .vmem => 3
  | .smem => 0
  | _ => 0

abbrev bufTy : (tb : Table) → Fin (tcTables nBuf tb) → BufTy
  | .hbm, ⟨0, _⟩ => ⟨S2560x5120, .i8⟩
  | .hbm, ⟨1, _⟩ => ⟨S320x5120, .fp8e4m3⟩
  | .hbm, ⟨2, _⟩ => ⟨S2560x5120, .i32⟩
  | .hbm, ⟨3, _⟩ => ⟨S_, .i32⟩
  | .hbm, ⟨4, _⟩ => ⟨S2560x5120, .i32⟩
  | .hbm, ⟨5, _⟩ => ⟨S2560x5120, .i32⟩
  | .hbm, ⟨6, _⟩ => ⟨S_, .i32⟩
  | .hbm, ⟨7, _⟩ => ⟨S2560x5120, .i32⟩
  | .hbm, ⟨8, _⟩ => ⟨S2560x5120, .i32⟩
  | .hbm, ⟨9, _⟩ => ⟨S2560x1x5120, .i32⟩
  | .hbm, ⟨10, _⟩ => ⟨S2560x1x5120, .i32⟩
  | .hbm, ⟨11, _⟩ => ⟨S2560x2x5120, .i32⟩
  | .hbm, ⟨12, _⟩ => ⟨S5120x5120, .i32⟩
  | .hbm, ⟨13, _⟩ => ⟨S_, .i32⟩
  | .hbm, ⟨14, _⟩ => ⟨S5120x5120, .i32⟩
  | .hbm, ⟨15, _⟩ => ⟨S5120x5120, .i32⟩
  | .hbm, ⟨16, _⟩ => ⟨S_, .i32⟩
  | .hbm, ⟨17, _⟩ => ⟨S5120x5120, .i32⟩
  | .hbm, ⟨18, _⟩ => ⟨S5120x5120, .i1⟩
  | .hbm, ⟨19, _⟩ => ⟨S_, .i32⟩
  | .hbm, ⟨20, _⟩ => ⟨S5120x5120, .i32⟩
  | .hbm, ⟨21, _⟩ => ⟨S5120x5120, .i32⟩
  | .hbm, ⟨22, _⟩ => ⟨S_, .i32⟩
  | .hbm, ⟨23, _⟩ => ⟨S5120x5120, .i32⟩
  | .hbm, ⟨24, _⟩ => ⟨S5120x5120, .i1⟩
  | .hbm, ⟨25, _⟩ => ⟨S_, .i32⟩
  | .hbm, ⟨26, _⟩ => ⟨S5120x5120, .i32⟩
  | .hbm, ⟨27, _⟩ => ⟨S5120x5120, .i32⟩
  | .hbm, ⟨28, _⟩ => ⟨S_, .i32⟩
  | .hbm, ⟨29, _⟩ => ⟨S5120x5120, .i32⟩
  | .hbm, ⟨30, _⟩ => ⟨S5120x5120, .i1⟩
  | .hbm, ⟨31, _⟩ => ⟨S_, .i32⟩
  | .hbm, ⟨32, _⟩ => ⟨S5120x5120, .i32⟩
  | .hbm, ⟨33, _⟩ => ⟨S5120x5120, .i32⟩
  | .hbm, ⟨34, _⟩ => ⟨S_, .i32⟩
  | .hbm, ⟨35, _⟩ => ⟨S5120x5120, .i32⟩
  | .hbm, ⟨36, _⟩ => ⟨S5120x5120, .i1⟩
  | .hbm, ⟨37, _⟩ => ⟨S_, .f32⟩
  | .hbm, ⟨38, _⟩ => ⟨S_, .f32⟩
  | .hbm, ⟨39, _⟩ => ⟨S5120x5120, .f32⟩
  | .hbm, ⟨40, _⟩ => ⟨S5120x5120, .f32⟩
  | .hbm, ⟨41, _⟩ => ⟨S5120x5120, .f32⟩
  | .hbm, ⟨42, _⟩ => ⟨S_, .f32⟩
  | .hbm, ⟨43, _⟩ => ⟨S_, .f32⟩
  | .hbm, ⟨44, _⟩ => ⟨S5120x5120, .f32⟩
  | .hbm, ⟨45, _⟩ => ⟨S5120x5120, .f32⟩
  | .hbm, ⟨46, _⟩ => ⟨S5120x5120, .f32⟩
  | .hbm, ⟨47, _⟩ => ⟨S5120x5120, .f32⟩
  | .hbm, ⟨48, _⟩ => ⟨S_, .f32⟩
  | .hbm, ⟨49, _⟩ => ⟨S_, .f32⟩
  | .hbm, ⟨50, _⟩ => ⟨S5120x5120, .f32⟩
  | .hbm, ⟨51, _⟩ => ⟨S5120x5120, .f32⟩
  | .hbm, ⟨52, _⟩ => ⟨S5120x5120, .f32⟩
  | .hbm, ⟨53, _⟩ => ⟨S_, .f32⟩
  | .hbm, ⟨54, _⟩ => ⟨S_, .f32⟩
  | .hbm, ⟨55, _⟩ => ⟨S5120x5120, .f32⟩
  | .hbm, ⟨56, _⟩ => ⟨S5120x5120, .f32⟩
  | .hbm, ⟨57, _⟩ => ⟨S5120x5120, .f32⟩
  | .hbm, ⟨58, _⟩ => ⟨S5120x5120, .f32⟩
  | .hbm, ⟨59, _⟩ => ⟨S5120x5120, .f32⟩
  | .hbm, ⟨60, _⟩ => ⟨S5120x5120, .f32⟩
  | .hbm, ⟨61, _⟩ => ⟨S5120x5120, .f32⟩
  | .hbm, ⟨62, _⟩ => ⟨S5120x5120, .bf16⟩
  | .hbm, ⟨63, _⟩ => ⟨S320x16x5120, .bf16⟩
  | .hbm, ⟨64, _⟩ => ⟨S5120x5120, .bf16⟩
  | .local _ .vmem, ⟨0, _⟩ => ⟨S320x16x5120, .bf16⟩
  | .local _ .vmem, ⟨1, _⟩ => ⟨S320x5120, .fp8e4m3⟩
  | .local _ .vmem, ⟨2, _⟩ => ⟨S5120x5120, .bf16⟩
  | _, _ => ⟨S2560x5120, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_c_8 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_cst_9 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_cst_10 : Ref sig .tc := ⟨.hbm, 42, rfl⟩
abbrev main_cst_11 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_v27 : Ref sig .tc := ⟨.hbm, 47, rfl⟩
abbrev main_cst_12 : Ref sig .tc := ⟨.hbm, 48, rfl⟩
abbrev main_cst_13 : Ref sig .tc := ⟨.hbm, 49, rfl⟩
abbrev main_call3_v0 : Ref sig .tc := ⟨.hbm, 50, rfl⟩
abbrev main_call3_v1 : Ref sig .tc := ⟨.hbm, 51, rfl⟩
abbrev main_v28 : Ref sig .tc := ⟨.hbm, 52, rfl⟩
abbrev main_cst_14 : Ref sig .tc := ⟨.hbm, 53, rfl⟩
abbrev main_cst_15 : Ref sig .tc := ⟨.hbm, 54, rfl⟩
abbrev main_call4_v0 : Ref sig .tc := ⟨.hbm, 55, rfl⟩
abbrev main_call4_v1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S320x16x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DqkvKernel.lean ====
abbrev S2560x6400 : Shape := ⟨2, ![2560, 6400]⟩
abbrev S320x6400 : Shape := ⟨2, ![320, 6400]⟩
abbrev S6400x5120 : Shape := ⟨2, ![6400, 5120]⟩
abbrev S256x640 : Shape := ⟨2, ![256, 640]⟩
abbrev S32x640 : Shape := ⟨2, ![32, 640]⟩
abbrev S640x512 : Shape := ⟨2, ![640, 512]⟩
abbrev S32x128 : Shape := ⟨2, ![32, 128]⟩
abbrev S4x128 : Shape := ⟨2, ![4, 128]⟩
abbrev S8x128 : Shape := ⟨2, ![8, 128]⟩
abbrev S1x128 : Shape := ⟨2, ![1, 128]⟩
abbrev S16x128 : Shape := ⟨2, ![16, 128]⟩
abbrev S64x128 : Shape := ⟨2, ![64, 128]⟩
abbrev S256x128 : Shape := ⟨2, ![256, 128]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S2560x6400, .i8⟩
  | .hbm, ⟨1, _⟩ => ⟨S320x6400, .fp8e4m3⟩
  | .hbm, ⟨2, _⟩ => ⟨S6400x5120, .bf16⟩
  | .local _ .vmem, ⟨0, _⟩ => ⟨S256x640, .i8⟩
  | .local _ .vmem, ⟨1, _⟩ => ⟨S256x640, .i8⟩
  | .local _ .vmem, ⟨2, _⟩ => ⟨S32x640, .fp8e4m3⟩
  | .local _ .vmem, ⟨3, _⟩ => ⟨S32x640, .fp8e4m3⟩
  | .local _ .vmem, ⟨4, _⟩ => ⟨S640x512, .bf16⟩
  | .local _ .vmem, ⟨5, _⟩ => ⟨S640x512, .bf16⟩
  | _, _ => ⟨S2560x6400, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![10, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x640 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x640 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DqkvKernelIdeal.lean ====
variable {F : FTy → Type} [FloatOps F]
-- ==== DqkvReferenceIdeal.lean ====
abbrev S2560x6400 : Shape := ⟨2, ![2560, 6400]⟩
abbrev S320x6400 : Shape := ⟨2, ![320, 6400]⟩
abbrev S_ : Shape := ⟨0, ![]⟩
abbrev S2560x1x6400 : Shape := ⟨3, ![2560, 1, 6400]⟩
abbrev S2560x2x6400 : Shape := ⟨3, ![2560, 2, 6400]⟩
abbrev S5120x6400 : Shape := ⟨2, ![5120, 6400]⟩
abbrev S320x16x6400 : Shape := ⟨3, ![320, 16, 6400]⟩
abbrev S6400x5120 : Shape := ⟨2, ![6400, 5120]⟩
abbrev S320x1x6400 : Shape := ⟨3, ![320, 1, 6400]⟩

abbrev nBuf : Space → Nat
  | .hbm => 65
  | .vmem => 3
  | .smem => 0
  | _ => 0

abbrev bufTy : (tb : Table) → Fin (tcTables nBuf tb) → BufTy
  | .hbm, ⟨0, _⟩ => ⟨S2560x6400, .i8⟩
  | .hbm, ⟨1, _⟩ => ⟨S320x6400, .fp8e4m3⟩
  | .hbm, ⟨2, _⟩ => ⟨S2560x6400, .i32⟩
  | .hbm, ⟨3, _⟩ => ⟨S_, .i32⟩
  | .hbm, ⟨4, _⟩ => ⟨S2560x6400, .i32⟩
  | .hbm, ⟨5, _⟩ => ⟨S2560x6400, .i32⟩
  | .hbm, ⟨6, _⟩ => ⟨S_, .i32⟩
  | .hbm, ⟨7, _⟩ => ⟨S2560x6400, .i32⟩
  | .hbm, ⟨8, _⟩ => ⟨S2560x6400, .i32⟩
  | .hbm, ⟨9, _⟩ => ⟨S2560x1x6400, .i32⟩
  | .hbm, ⟨10, _⟩ => ⟨S2560x1x6400, .i32⟩
  | .hbm, ⟨11, _⟩ => ⟨S2560x2x6400, .i32⟩
  | .hbm, ⟨12, _⟩ => ⟨S5120x6400, .i32⟩
  | .hbm, ⟨13, _⟩ => ⟨S_, .i32⟩
  | .hbm, ⟨14, _⟩ => ⟨S5120x6400, .i32⟩
  | .hbm, ⟨15, _⟩ => ⟨S5120x6400, .i32⟩
  | .hbm, ⟨16, _⟩ => ⟨S_, .i32⟩
  | .hbm, ⟨17, _⟩ => ⟨S5120x6400, .i32⟩
  | .hbm, ⟨18, _⟩ => ⟨S5120x6400, .i1⟩
  | .hbm, ⟨19, _⟩ => ⟨S_, .i32⟩
  | .hbm, ⟨20, _⟩ => ⟨S5120x6400, .i32⟩
  | .hbm, ⟨21, _⟩ => ⟨S5120x6400, .i32⟩
  | .hbm, ⟨22, _⟩ => ⟨S_, .i32⟩
  | .hbm, ⟨23, _⟩ => ⟨S5120x6400, .i32⟩
  | .hbm, ⟨24, _⟩ => ⟨S5120x6400, .i1⟩
  | .hbm, ⟨25, _⟩ => ⟨S_, .i32⟩
  | .hbm, ⟨26, _⟩ => ⟨S5120x6400, .i32⟩
  | .hbm, ⟨27, _⟩ => ⟨S5120x6400, .i32⟩
  | .hbm, ⟨28, _⟩ => ⟨S_, .i32⟩
  | .hbm, ⟨29, _⟩ => ⟨S5120x6400, .i32⟩
  | .hbm, ⟨30, _⟩ => ⟨S5120x6400, .i1⟩
  | .hbm, ⟨31, _⟩ => ⟨S_, .i32⟩
  | .hbm, ⟨32, _⟩ => ⟨S5120x6400, .i32⟩
  | .hbm, ⟨33, _⟩ => ⟨S5120x6400, .i32⟩
  | .hbm, ⟨34, _⟩ => ⟨S_, .i32⟩
  | .hbm, ⟨35, _⟩ => ⟨S5120x6400, .i32⟩
  | .hbm, ⟨36, _⟩ => ⟨S5120x6400, .i1⟩
  | .hbm, ⟨37, _⟩ => ⟨S_, .f32⟩
  | .hbm, ⟨38, _⟩ => ⟨S_, .f32⟩
  | .hbm, ⟨39, _⟩ => ⟨S5120x6400, .f32⟩
  | .hbm, ⟨40, _⟩ => ⟨S5120x6400, .f32⟩
  | .hbm, ⟨41, _⟩ => ⟨S5120x6400, .f32⟩
  | .hbm, ⟨42, _⟩ => ⟨S_, .f32⟩
  | .hbm, ⟨43, _⟩ => ⟨S_, .f32⟩
  | .hbm, ⟨44, _⟩ => ⟨S5120x6400, .f32⟩
  | .hbm, ⟨45, _⟩ => ⟨S5120x6400, .f32⟩
  | .hbm, ⟨46, _⟩ => ⟨S5120x6400, .f32⟩
  | .hbm, ⟨47, _⟩ => ⟨S5120x6400, .f32⟩
  | .hbm, ⟨48, _⟩ => ⟨S_, .f32⟩
  | .hbm, ⟨49, _⟩ => ⟨S_, .f32⟩
  | .hbm, ⟨50, _⟩ => ⟨S5120x6400, .f32⟩
  | .hbm, ⟨51, _⟩ => ⟨S5120x6400, .f32⟩
  | .hbm, ⟨52, _⟩ => ⟨S5120x6400, .f32⟩
  | .hbm, ⟨53, _⟩ => ⟨S_, .f32⟩
  | .hbm, ⟨54, _⟩ => ⟨S_, .f32⟩
  | .hbm, ⟨55, _⟩ => ⟨S5120x6400, .f32⟩
  | .hbm, ⟨56, _⟩ => ⟨S5120x6400, .f32⟩
  | .hbm, ⟨57, _⟩ => ⟨S5120x6400, .f32⟩
  | .hbm, ⟨58, _⟩ => ⟨S5120x6400, .f32⟩
  | .hbm, ⟨59, _⟩ => ⟨S5120x6400, .f32⟩
  | .hbm, ⟨60, _⟩ => ⟨S5120x6400, .f32⟩
  | .hbm, ⟨61, _⟩ => ⟨S5120x6400, .f32⟩
  | .hbm, ⟨62, _⟩ => ⟨S5120x6400, .bf16⟩
  | .hbm, ⟨63, _⟩ => ⟨S320x16x6400, .bf16⟩
  | .hbm, ⟨64, _⟩ => ⟨S6400x5120, .bf16⟩
  | .local _ .vmem, ⟨0, _⟩ => ⟨S320x16x6400, .bf16⟩
  | .local _ .vmem, ⟨1, _⟩ => ⟨S320x6400, .fp8e4m3⟩
  | .local _ .vmem, ⟨2, _⟩ => ⟨S6400x5120, .bf16⟩
  | _, _ => ⟨S2560x6400, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_c_8 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_cst_9 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_cst_10 : Ref sig .tc := ⟨.hbm, 42, rfl⟩
abbrev main_cst_11 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_v27 : Ref sig .tc := ⟨.hbm, 47, rfl⟩
abbrev main_cst_12 : Ref sig .tc := ⟨.hbm, 48, rfl⟩
abbrev main_cst_13 : Ref sig .tc := ⟨.hbm, 49, rfl⟩
abbrev main_call3_v0 : Ref sig .tc := ⟨.hbm, 50, rfl⟩
abbrev main_call3_v1 : Ref sig .tc := ⟨.hbm, 51, rfl⟩
abbrev main_v28 : Ref sig .tc := ⟨.hbm, 52, rfl⟩
abbrev main_cst_14 : Ref sig .tc := ⟨.hbm, 53, rfl⟩
abbrev main_cst_15 : Ref sig .tc := ⟨.hbm, 54, rfl⟩
abbrev main_call4_v0 : Ref sig .tc := ⟨.hbm, 55, rfl⟩
abbrev main_call4_v1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S320x16x6400 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x6400 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6400x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Out.Value.lean ====
/-
  The output projection's kernel over the extended reals: what one grid point writes, and what the result array holds
  after the run.
-/
module

public import proofs.«01_k».proof.Defs
public import proofs.«01_k».proof.Proof.Gen.OutKernelIdeal.Value
public import Idealize.ShloMosaic.Lib.Pointwise
public import Idealize.ShloMosaic.Lib.StableHlo.Run
public import Idealize.ShloMosaic.Lib.Tactic

@[expose] public section

set_option maxRecDepth 16384

noncomputable section

namespace Cert.Proof.Out

open Idealize.ShloMosaic Idealize.ShloMosaic.TcCoe Idealize.SL.Sem
open Cert.OutKernelIdeal Cert.OutKernelIdeal.Gen
open Idealize.ShloMosaic.Pipeline (Dat)
open scoped BigOperators

section AnyF
variable {F : FTy → Type} [FloatOps F]

theorem hz : (![0, 0] : Fin 2 → Nat) = fun _ => 0 := funext fun a => by fin_cases a <;> rfl

/-- The body's one covering store leaves its payload: the product of the two staged blocks, scaled, with the bias
    and the residual added. -/
theorem out_eq (c : Dev nD) (i : grid0.Coords) (arg2 : Memref sig .tc .smem S1 .f32) (harg2 : arg2.IsWhole) (arg3 : Memref sig .tc .vmem S1024x5120 .bf16) (harg3 : arg3.IsWhole) (arg4 : Memref sig .tc .vmem S5120x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1 .f32) (x1 : Vec F S1024x5120 .bf16) (x2 : Vec F S5120x1024 .bf16) (x3 : Vec F S1x1024 .f32) (x4 : Vec F S1024x1024 .bf16) :
    out0_A_5 c i arg2 harg2 arg3 harg3 arg4 harg4 arg5 harg5 arg6 harg6 arg7 harg7 x0 x1 x2 x3 x4
      = k0_pay1 x1 x2 (x0 (ix1 0)) x3 x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero (S := S1024x1024) hz]
  simp only [View.readAt_eq_ld, harg2.read_unread, harg3.read_unread, harg4.read_unread, harg5.read_unread, harg6.read_unread,
    View.ld_unit_zero (S := S1024x5120) hz, View.ld_unit_zero (S := S5120x1024) hz, View.ld_unit_zero (S := S1x1024) hz,
    View.ld_unit_zero (S := S1024x1024) hz]
  congr 1
  show x0 _ = x0 _
  congr 1
  funext a
  match a with
  | ⟨0, _⟩ => exact Subsingleton.elim (α := Fin 1) _ _

end AnyF

variable (m : (ℓ : Loc nD τ sig) → Buf (Elt Ideal) ℓ) (ρ : Dev nD → PrngReg)

/-- The residual plus the scaled product and the bias, at token `r` and column `l`. -/
def outAt (attn : Vec Ideal S15360x5120 .bf16) (wo : Vec Ideal S5120x5120 .bf16) (t : Vec Ideal S1 .f32)
    (b : Vec Ideal S5120 .f32) (x : Vec Ideal S12x1280x5120 .bf16) (r : Fin 15360) (l : Fin 5120) : EReal :=
  shapeCast S15360x5120 x shapeCasts_S12x1280x5120_S15360x5120 (ix2 r l)
    + ((∑ k : Fin 5120, attn (ix2 r k) * wo (ix2 k l)) * t (ix1 0) + b (ix1 l))

/-- The whole result. -/
def result (attn : Vec Ideal S15360x5120 .bf16) (wo : Vec Ideal S5120x5120 .bf16) (t : Vec Ideal S1 .f32)
    (b : Vec Ideal S5120 .f32) (x : Vec Ideal S12x1280x5120 .bf16) : Vec Ideal S15360x5120 .bf16 :=
  fun i => outAt attn wo t b x (i 0) (i 1)

/-- The body's payload read at an element. -/
theorem pay_apply (v0 : Vec Ideal S1024x5120 .bf16) (v1 : Vec Ideal S5120x1024 .bf16) (v3 : Elt Ideal .f32)
    (v6 : Vec Ideal S1x1024 .f32) (v10 : Vec Ideal S1024x1024 .bf16) (r : Fin 1024) (l : Fin 1024) :
    k0_pay1 v0 v1 v3 v6 v10 (ix2 r l)
      = v10 (ix2 r l) + ((∑ k : Fin 5120, v0 (ix2 r k) * v1 (ix2 k l)) * v3 + v6 (ix2 0 l)) := by
  pointwise [k0_pay1]

theorem idx1 : ∀ t : Fin cfg0.N, win0_1.index t 0 = t.val / 5 ∧ win0_1.index t 1 = 0 :=
  (by decide +kernel : ∀ t : Fin grid0.N, win0_1.index t 0 = t.val / 5 ∧ win0_1.index t 1 = 0)
theorem idx2 : ∀ t : Fin cfg0.N, win0_2.index t 0 = 0 ∧ win0_2.index t 1 = t.val % 5 :=
  (by decide +kernel : ∀ t : Fin grid0.N, win0_2.index t 0 = 0 ∧ win0_2.index t 1 = t.val % 5)
theorem idx3 : ∀ t : Fin cfg0.N, win0_3.index t 0 = 0 ∧ win0_3.index t 1 = t.val % 5 :=
  (by decide +kernel : ∀ t : Fin grid0.N, win0_3.index t 0 = 0 ∧ win0_3.index t 1 = t.val % 5)
theorem idx4 : ∀ t : Fin cfg0.N, win0_4.index t 0 = t.val / 5 ∧ win0_4.index t 1 = t.val % 5 :=
  (by decide +kernel : ∀ t : Fin grid0.N, win0_4.index t 0 = t.val / 5 ∧ win0_4.index t 1 = t.val % 5)
theorem idx5 : ∀ t : Fin cfg0.N, win0_5.index t 0 = t.val / 5 ∧ win0_5.index t 1 = t.val % 5 :=
  (by decide +kernel : ∀ t : Fin grid0.N, win0_5.index t 0 = t.val / 5 ∧ win0_5.index t 1 = t.val % 5)

theorem t_lt (t : Fin cfg0.N) : t.val < 75 := lt_of_lt_of_eq t.isLt N_0

/-- Row `r` of the point's row block, in the whole array. -/
def row (t : Fin cfg0.N) (r : Fin 1024) : Fin 15360 := ⟨t.val / 5 * 1024 + r.val, by have := t_lt t; omega⟩
/-- Column `l` of the point's column block, in the whole array. -/
def col (t : Fin cfg0.N) (l : Fin 1024) : Fin 5120 := ⟨t.val % 5 * 1024 + l.val, by have := t_lt t; omega⟩

theorem blk0 (c : Dev nD) (t : Fin cfg0.N) : (iblk m c 0 t : Vec Ideal S1 .f32) (ix1 0) = m ((c : Thread nD τ).loc main_arg2) (ix1 0) := by
  unfold iblk
  rw [View.read_apply]
  show V m c main_arg2 _ = _
  rw [V_main_arg2]
  congr 1
  funext a
  apply Fin.ext
  match a with
  | ⟨0, _⟩ => rfl

theorem blk1 (c : Dev nD) (t : Fin cfg0.N) (r : Fin 1024) (k : Fin 5120) :
    (iblk m c 1 t : Vec Ideal S1024x5120 .bf16) (ix2 r k) = m ((c : Thread nD τ).loc main_arg0) (ix2 (row t r) k) := by
  unfold iblk
  rw [View.read_apply]
  show V m c main_arg0 _ = _
  rw [V_main_arg0]
  congr 1
  funext a
  apply Fin.ext
  match a with
  | ⟨0, _⟩ => show win0_1.index t 0 * 1024 + 1 * r.val = t.val / 5 * 1024 + r.val; rw [(idx1 t).1]; omega
  | ⟨1, _⟩ => show win0_1.index t 1 * 5120 + 1 * k.val = k.val; rw [(idx1 t).2]; omega

theorem blk2 (c : Dev nD) (t : Fin cfg0.N) (k : Fin 5120) (l : Fin 1024) :
    (iblk m c 2 t : Vec Ideal S5120x1024 .bf16) (ix2 k l) = m ((c : Thread nD τ).loc main_arg1) (ix2 k (col t l)) := by
  unfold iblk
  rw [View.read_apply]
  show V m c main_arg1 _ = _
  rw [V_main_arg1]
  congr 1
  funext a
  apply Fin.ext
  match a with
  | ⟨0, _⟩ => show win0_2.index t 0 * 5120 + 1 * k.val = k.val; rw [(idx2 t).1]; omega
  | ⟨1, _⟩ => show win0_2.index t 1 * 1024 + 1 * l.val = t.val % 5 * 1024 + l.val; rw [(idx2 t).2]; omega

/-- The region finds the bias as one row. -/
theorem V_bias (c : Dev nD) : V m c main_v1 = shapeCast S1x5120 (m ((c : Thread nD τ).loc main_arg3)) shapeCasts_S5120_S1x5120 := by
  show V m c main_v1 = _
  unfold V
  after_results <;> rfl

/-- The region finds the residual as one row per token. -/
theorem V_x (c : Dev nD) : V m c main_v0 = shapeCast S15360x5120 (m ((c : Thread nD τ).loc main_arg4)) shapeCasts_S12x1280x5120_S15360x5120 := by
  unfold V
  after_results <;> rfl

theorem blk3 (c : Dev nD) (t : Fin cfg0.N) (l : Fin 1024) :
    (iblk m c 3 t : Vec Ideal S1x1024 .f32) (ix2 0 l) = m ((c : Thread nD τ).loc main_arg3) (ix1 (col t l)) := by
  have h : (iblk m c 3 t : Vec Ideal S1x1024 .f32) (ix2 0 l)
      = shapeCast S1x5120 (m ((c : Thread nD τ).loc main_arg3) : Vec Ideal S5120 .f32) shapeCasts_S5120_S1x5120 (ix2 0 (col t l)) := by
    unfold iblk
    rw [View.read_apply]
    show V m c main_v1 _ = _
    rw [V_bias]
    congr 1
    funext a
    apply Fin.ext
    match a with
    | ⟨0, _⟩ => show win0_3.index t 0 * 1 + 1 * 0 = 0; rw [(idx3 t).1]
    | ⟨1, _⟩ => show win0_3.index t 1 * 1024 + 1 * l.val = t.val % 5 * 1024 + l.val; rw [(idx3 t).2]; omega
  rw [h, shapeCast_addUnit_apply]
  congr 1
  funext a
  match a with
  | ⟨0, _⟩ => rfl

theorem blk4 (c : Dev nD) (t : Fin cfg0.N) (r : Fin 1024) (l : Fin 1024) :
    (iblk m c 4 t : Vec Ideal S1024x1024 .bf16) (ix2 r l)
      = shapeCast S15360x5120 (m ((c : Thread nD τ).loc main_arg4) : Vec Ideal S12x1280x5120 .bf16) shapeCasts_S12x1280x5120_S15360x5120 (ix2 (row t r) (col t l)) := by
  unfold iblk
  rw [View.read_apply]
  show V m c main_v0 _ = _
  rw [V_x]
  congr 1
  funext a
  apply Fin.ext
  match a with
  | ⟨0, _⟩ => show win0_4.index t 0 * 1024 + 1 * r.val = t.val / 5 * 1024 + r.val; rw [(idx4 t).1]; omega
  | ⟨1, _⟩ => show win0_4.index t 1 * 1024 + 1 * l.val = t.val % 5 * 1024 + l.val; rw [(idx4 t).2]; omega

/-- The result over the arguments as launched. -/
abbrev res (c : Dev nD) : Buf (Elt Ideal) ((c : Thread nD τ).loc main_v2) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What the body leaves at an element is the result at the element's place in the whole array. -/
theorem pay_blk (c : Dev nD) (t : Fin cfg0.N) (r l : Fin 1024) :
    k0_pay1 (iblk m c 1 t) (iblk m c 2 t) ((iblk m c 0 t : Vec Ideal S1 .f32) (ix1 0)) (iblk m c 3 t) (iblk m c 4 t) (ix2 r l)
      = res m c (ix2 (row t r) (col t l)) := by
  rw [pay_apply, blk0, blk3, blk4]
  simp only [blk1, blk2]
  rfl

/-- Every point writes back its block of the result. -/
theorem flushed_eq (c : Dev nD) (t : Fin cfg0.N) (hf : (cfg0.win 5).flush t = true) :
    (dats m 0 c).flushed 5 t = ((cfg0.win 5).blk t).view.read (Elt Ideal) (res m c) := by
  rw [Value.flushed5_A, out_eq]
  generalize hG : res m c = G
  funext j
  obtain ⟨r, l, rfl⟩ : ∃ (r : Fin 1024) (l : Fin 1024), j = ix2 r l := ⟨j 0, j 1, eq_ix2 j⟩
  rw [View.read_apply]
  refine (pay_blk m c t r l).trans ?_
  rw [hG]
  congr 1
  funext a
  apply Fin.ext
  match a with
  | ⟨0, _⟩ => show t.val / 5 * 1024 + r.val = win0_5.index t 0 * 1024 + 1 * r.val; rw [(idx5 t).1]; omega
  | ⟨1, _⟩ => show t.val % 5 * 1024 + l.val = win0_5.index t 1 * 1024 + 1 * l.val; rw [(idx5 t).2]; omega

theorem flush5 : ∀ t : Fin cfg0.N, (cfg0.win 5).flush t = true :=
  (by decide +kernel : ∀ t : Fin grid0.N, win0_5.flush t = true)

/-- The points' blocks cover the result, so it ends whole. -/
theorem final (c : Dev nD) : (dats m 0 c).arrAt 5 cfg0.N = res m c :=
  (dats m 0 c).arrAt_eq_of_cover 5 (res m c) (flushed_eq m c) fun i => by
    have h0 : (i 0 : Nat) < 15360 := (i 0).isLt
    have h1 : (i 1 : Nat) < 5120 := (i 1).isLt
    let t : Fin cfg0.N := ⟨(i 0 : Nat) / 1024 * 5 + (i 1 : Nat) / 1024, by rw [show cfg0.N = 75 from N_0]; omega⟩
    have e0 : t.val / 5 = (i 0 : Nat) / 1024 := by show ((i 0 : Nat) / 1024 * 5 + (i 1 : Nat) / 1024) / 5 = _; omega
    have e1 : t.val % 5 = (i 1 : Nat) / 1024 := by show ((i 0 : Nat) / 1024 * 5 + (i 1 : Nat) / 1024) % 5 = _; omega
    refine ⟨t, flush5 t, ?_⟩
    show i ∈ ((View.whole main_v2).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [(idx5 t).1, e0]; omega
    | ⟨1, _⟩ => show win0_5.index t 1 * 1024 ≤ (i 1 : Nat) ∧ (i 1 : Nat) < win0_5.index t 1 * 1024 + 1024
                rw [(idx5 t).2, e1]; omega

/-- The run: the result array at the result, the arguments unchanged. -/
theorem run : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Proof.Out

end
-- ==== Proof.Out.Reference.lean ====
/-
  The output projection's reference over the extended reals: its result is the kernel's, element by element.
-/
module

public import proofs.«01_k».proof.Proof.Out.Value
public import proofs.«01_k».proof.Proof.Gen.OutReferenceIdeal.Run

@[expose] public section

set_option maxRecDepth 16384

noncomputable section

namespace Cert.Proof.Out

open Idealize.ShloMosaic Idealize.ShloMosaic.TcCoe Idealize.SL.Sem
open Cert.OutReferenceIdeal Cert.OutReferenceIdeal.Gen
open scoped BigOperators

/-- The reference's composed term is the result. -/
theorem ref_eq (attn : FVec Ideal S15360x5120 .bf16) (wo : FVec Ideal S5120x5120 .bf16) (t : FVec Ideal S1 .f32)
    (b : FVec Ideal S5120 .f32) (x : FVec Ideal S12x1280x5120 .bf16) :
    (truncf .bf16 (addf (extf .f32 (shapeCast S15360x5120 x shapeCasts_S12x1280x5120_S15360x5120) bitsLt_bf16_f32)
      (addf (mulf (Host.dotGeneral dot_S15360x5120_S5120x5120_S15360x5120_1_0_0_1_n_n none attn wo)
        (broadcastInDim S15360x5120 ![0, 1] bcast_S1x1_S15360x5120_0_1 (broadcastInDim S1x1 ![1] bcast_S1_S1x1_1 t)))
        (broadcastInDim S15360x5120 ![0, 1] bcast_S1x5120_S15360x5120_0_1 (broadcastInDim S1x5120 ![1] bcast_S5120_S1x5120_1 b))))
      bitsLt_bf16_f32 : FVec Ideal S15360x5120 .bf16) = result attn wo t b x := by
  funext j
  obtain ⟨r, l, rfl⟩ : ∃ (r : Fin 15360) (l : Fin 5120), j = ix2 r l := ⟨j 0, j 1, eq_ix2 j⟩
  show _ = outAt attn wo t b x r l
  unfold outAt
  generalize hx : (shapeCast S15360x5120 x shapeCasts_S12x1280x5120_S15360x5120 : FVec Ideal S15360x5120 .bf16) = x2
  pointwise []

end Cert.Proof.Out

end
-- ==== Proof.QkvFrame.Runs.lean ====
/-
  The projection's kernel: what its two body cases share — the conditions, the buffers, the invariant.
-/
module

public import proofs.«01_k».proof.Proof.Gen.QkvKernel.Frame
public import proofs.«01_k».proof.Proof.Gen.QkvKernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.QkvFrame

open Cert.QkvKernel Cert.QkvKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run whose argument arrays end as the region found them leaves the arguments as launched. -/
theorem frame_of_runs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 0 rfl).trans ((hA c 0).trans (V_main_arg5 m c))⟩) h

/-! ## The body's branch conditions -/

/-- A branch condition of the body. -/
abbrev cond0_0 (i : grid0.Coords) : Prop := k0_cond1 i = 1#1
/-- It holds at the points before point 10 — by arithmetic of the point. -/
theorem hcond0_0 : ∀ t : Fin cfg0.N, cond0_0 (grid0.coords t) ↔ t.val < 10 :=
  (fun t => by
    have ht : t.val < 160 := Nat.lt_of_lt_of_eq t.isLt N_0
    have e0 : (grid0.coords t 0).val = t.val / 10 % 16 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val < 10)

/-- A branch condition of the body. -/
abbrev cond0_1 (i : grid0.Coords) : Prop := k0_cond2 i = 1#1
/-- It holds at the points from point 10 on — decided over the grid. -/
theorem hcond0_1 : ∀ t : Fin cfg0.N, cond0_1 (grid0.coords t) ↔ 10 ≤ t.val :=
  (by decide +kernel : ∀ t : Fin grid0.N, cond0_1 (grid0.coords t) ↔ 10 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S12 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x1024 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x1024x5120 .bf16 := Memref.whole cc0_scratch0
abbrev scM0_1 : Memref sig .tc .vmem S2x2x8x32x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.QkvFrame

end
-- ==== Proof.QkvFrame.RunA.lean ====
/-
  The projection's kernel body at the points of the first token block, where only the normalised rows are written: it runs and leaves its inputs alone.
-/
module

public import proofs.«01_k».proof.Proof.QkvFrame.Runs

@[expose] public section

set_option maxRecDepth 16384

noncomputable section

namespace Cert.Proof.QkvFrame

open Cert.QkvKernel Cert.QkvKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body before point 10: inputs come back as they were, outputs and scratch at some contents. -/
theorem kernelRun0_A (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : cond0_0 i) (hc1 : ¬cond0_1 i)
    (x0 : Vec F S12 .i32) (x1 : Vec F S1 .f32) (x2 : Vec F S128x5120 .bf16) (x3 : Vec F S1x5120 .f32) (x4 : Vec F S640x5120 .bf16) (x5 : Vec F S640x1 .f32) (x6 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12) K := by
    intro E K
    simp only [cc0_qkv_proj_eq_skeleton]; unfold cc0_qkv_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Proof.QkvFrame

end
-- ==== Proof.QkvFrame.RunB.lean ====
/-
  The projection's kernel body at every later point, where a product is stored too: it runs and leaves its inputs alone.
-/
module

public import proofs.«01_k».proof.Proof.QkvFrame.Runs

@[expose] public section

set_option maxRecDepth 16384

noncomputable section

namespace Cert.Proof.QkvFrame

open Cert.QkvKernel Cert.QkvKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body from point 10 on: inputs come back as they were, outputs and scratch at some contents. -/
theorem kernelRun0_B (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : ¬cond0_0 i) (hc1 : cond0_1 i)
    (x0 : Vec F S12 .i32) (x1 : Vec F S1 .f32) (x2 : Vec F S128x5120 .bf16) (x3 : Vec F S1x5120 .f32) (x4 : Vec F S640x5120 .bf16) (x5 : Vec F S640x1 .f32) (x6 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12) K := by
    intro E K
    simp only [cc0_qkv_proj_eq_skeleton]; unfold cc0_qkv_proj_skel
    simp only [k0_part63_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Proof.QkvFrame

end
-- ==== Proof.QkvFrame.Frame.lean ====
/-
  The projection's kernel runs, ends, and leaves its arguments as they were.
-/
module

public import proofs.«01_k».proof.Proof.QkvFrame.RunA
public import proofs.«01_k».proof.Proof.QkvFrame.RunB
public import Idealize.ShloMosaic.Lib.Claim

@[expose] public section

set_option maxRecDepth 16384

noncomputable section

namespace Cert.Proof.QkvFrame

open Cert.QkvKernel Cert.QkvKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows, of which nothing is named. -/
def forgets0 : Fin 9 → Bool := fun w => w.val == 7 || w.val == 8

/-- What each buffer holds after a point: the inputs their blocks, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves each input at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 1600000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 160 := lt_of_lt_of_eq t.isLt (show cfg0.N = 160 from N_0)
  by_cases h0 : t.val < 10
  · by_cases h1 : 10 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : 10 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; omega

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the inputs end as they were. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_runs m ρ (fun c => (dats m 0 c).toRForget forgets0) (A_eq m) (run_main m ρ)

/-- The frame of the projection kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.QkvFrame

end
-- ==== Proof.Qkv.Runs.lean ====
/-
  The projection's kernel: what its two body cases share — the conditions, the buffers, the invariant.
-/
module

public import proofs.«01_k».proof.Proof.Gen.QkvKernelIdeal.Frame
public import proofs.«01_k».proof.Proof.Gen.QkvKernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Qkv

open Cert.QkvKernelIdeal Cert.QkvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- A branch condition of the body. -/
abbrev cond0_0 (i : grid0.Coords) : Prop := k0_cond1 i = 1#1
/-- It holds at the points before point 10 — by arithmetic of the point. -/
theorem hcond0_0 : ∀ t : Fin cfg0.N, cond0_0 (grid0.coords t) ↔ t.val < 10 :=
  (fun t => by
    have ht : t.val < 160 := Nat.lt_of_lt_of_eq t.isLt N_0
    have e0 : (grid0.coords t 0).val = t.val / 10 % 16 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val < 10)

/-- A branch condition of the body. -/
abbrev cond0_1 (i : grid0.Coords) : Prop := k0_cond2 i = 1#1
/-- It holds at the points from point 10 on — decided over the grid. -/
theorem hcond0_1 : ∀ t : Fin cfg0.N, cond0_1 (grid0.coords t) ↔ 10 ≤ t.val :=
  (by decide +kernel : ∀ t : Fin grid0.N, cond0_1 (grid0.coords t) ↔ 10 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S12 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x1024 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x1024x5120 .bf16 := Memref.whole cc0_scratch0
abbrev scM0_1 : Memref sig .tc .vmem S2x2x8x32x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.Qkv

end
-- ==== Proof.Qkv.RunA.lean ====
/-
  The projection's kernel body at the points of the first token block, where only the normalised rows are written: the stores it makes.
-/
module

public import proofs.«01_k».proof.Proof.Qkv.Runs

@[expose] public section

set_option maxRecDepth 16384

noncomputable section

namespace Cert.Proof.Qkv

open Cert.QkvKernelIdeal Cert.QkvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body before point 10, with the stores into the two scratch buffers as the run finds them. -/
noncomputable def kernelRun0_A (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : cond0_0 i) (hc1 : ¬cond0_1 i)
    (x0 : Vec F S12 .i32) (x1 : Vec F S1 .f32) (x2 : Vec F S128x5120 .bf16) (x3 : Vec F S1x5120 .f32) (x4 : Vec F S640x5120 .bf16) (x5 : Vec F S640x1 .f32) (x6 : Vec F S32x128 .f32)
    (d7 : Vec F S640x1024 .bf16) (d8 : Vec F S640x1024 .f32) (xs0 : Vec F S2x1024x5120 .bf16) (xs1 : Vec F S2x2x8x32x128 .f32) :
    (L11 : List (View.Piece (Elt F) S2x1024x5120 .bf16)) ×' (L12 : List (View.Piece (Elt F) S2x2x8x32x128 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d7 ∗ owns (c : Thread nD τ) arg10 fullShare d8 ∗ (arg11.view.loc (c : Thread nD τ) ↦[arg11.view.set]{fullShare} arg11.view.writes (Elt F) (harg11.unread xs0) L11) ∗ (arg12.view.loc (c : Thread nD τ) ↦[arg12.view.set]{fullShare} arg12.view.writes (Elt F) (harg12.unread xs1) L12)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12) K) := by
    refine ⟨?_, ?_, fun E K => ?run⟩
    case run =>
      simp only [cc0_qkv_proj_eq_skeleton]; unfold cc0_qkv_proj_skel
      simp only [k0_part1_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact hf7
        iexact H7
      isplitl [H8]
      · iexists _; isplitr; · ipureintro; exact hf8
        iexact H8
      isplitl [HS0]
      · iexact HS0
      iexact HS1

end Cert.Proof.Qkv

end
-- ==== Proof.Qkv.Spec.lean ====
/-
  The projection with its rotary embedding, element by element over the extended reals: what the kernel and its
  reference both compute, for token `n` and output row `o`.
-/
module

public import proofs.«01_k».proof.QkvKernelIdeal
public import Idealize.ShloMosaic.Lib.Pointwise

@[expose] public section

noncomputable section

namespace Cert.Proof.Qkv

open Idealize.ShloMosaic Idealize.SL.Sem
open Cert.QkvKernelIdeal (S12x1280x5120 S5120 S6400x5120 S1 S6400 S12)
open scoped BigOperators

/-- The shape of the frequencies. -/
abbrev S32 : Shape := ⟨1, ![32]⟩

/-- The arguments of the projection, and the rotary frequencies. -/
structure Args where
  x : FVec Ideal S12x1280x5120 .bf16
  g : FVec Ideal S5120 .f32
  w : FVec Ideal S6400x5120 .bf16
  t : FVec Ideal S1 .f32
  b : FVec Ideal S6400 .f32
  ctx : IVec S12 32
  fr : FVec Ideal S32 .f32

variable (A : Args)

/-- Token `n` of the input, channel `k`. -/
def tok (n : ℕ) (k : Fin 5120) : EReal :=
  A.x (ix3 (⟨n / 1280 % 12, Nat.mod_lt _ (by decide)⟩ : Fin 12) (⟨n % 1280, Nat.mod_lt _ (by decide)⟩ : Fin 1280) k)

/-- Token `n` normalised to unit mean square and multiplied by the gain. -/
def hN (n : ℕ) (k : Fin 5120) : EReal :=
  tok A n k * Ideal.rsqrt (Ideal.div (∑ l, tok A n l * tok A n l) (Ideal.ofBits FTy.f32 1168113664#32)
    + Ideal.ofBits FTy.f32 925353388#32) * A.g (ix1 k)

/-- The product of weight row `o` with token `n`, scaled, with the bias. -/
def yN (n o : ℕ) : EReal :=
  (∑ k, A.w (ix2 (⟨o % 6400, Nat.mod_lt _ (by decide)⟩ : Fin 6400) k) * hN A n k) * A.t (ix1 0)
    + A.b (ix1 (⟨o % 6400, Nat.mod_lt _ (by decide)⟩ : Fin 6400))

/-- The angle of token `n` at frequency `f`. -/
def angN (n : ℕ) (f : Fin 32) : EReal :=
  FloatOps.sitofp (F := Ideal) FTy.f32
    (IntOp.addi (A.ctx (ix1 (⟨n / 1280 % 12, Nat.mod_lt _ (by decide)⟩ : Fin 12))) (BitVec.ofNat 32 (n % 1280)))
      * A.fr (ix1 f)

/-- The frequency of output row `o`. -/
def fN (o : ℕ) : Fin 32 := ⟨o % 32, Nat.mod_lt _ (by decide)⟩

/-- Output row `o` of token `n` with the two halves of its head rotated. -/
def rotN (n o : ℕ) : EReal :=
  if o % 64 < 32 then yN A n o * Ideal.cos (angN A n (fN o)) - yN A n (o + 32) * Ideal.sin (angN A n (fN o))
  else yN A n o * Ideal.cos (angN A n (fN o)) + yN A n (o - 32) * Ideal.sin (angN A n (fN o))

/-- The projection: query rows rotated and scaled, key rows rotated, value rows as they are. -/
def zN (n o : ℕ) : EReal :=
  if o < 5120 then rotN A n o * Ideal.ofBits FTy.f32 1040187392#32
  else if o < 5760 then rotN A n o else yN A n o

end Cert.Proof.Qkv

end
-- ==== Proof.Qkv.Reference.lean ====
/-
  The projection's reference over the extended reals, element by element.
-/
module

public import proofs.«01_k».proof.Proof.Qkv.Spec
public import proofs.«01_k».proof.Proof.Gen.QkvReferenceIdeal.Run

@[expose] public section

set_option maxRecDepth 16384

noncomputable section

namespace Cert.Proof.Qkv

open Idealize.ShloMosaic Idealize.ShloMosaic.TcCoe Idealize.SL.Sem
open Cert.QkvReferenceIdeal hiding S32
open Cert.QkvReferenceIdeal.Gen
open scoped BigOperators

/-- The normalised input. -/
def refH (x : FVec Ideal S12x1280x5120 .bf16) (g : FVec Ideal S5120 .f32) : FVec Ideal S12x1280x5120 .bf16 :=
  truncf .bf16 (mulf (mulf (extf .f32 x bitsLt_bf16_f32) (broadcastInDim S12x1280x5120 ![0, 1, 2] bcast_S12x1280x1_S12x1280x5120_0_1_2 (Host.rsqrt (addf (Host.divf (broadcastInDim S12x1280x1 ![0, 1] bcast_S12x1280_S12x1280x1_0_1 (Host.reduceAdd (mulf (extf .f32 x bitsLt_bf16_f32) (extf .f32 x bitsLt_bf16_f32)) (constant S_ .f32 0x00000000#32) reducesTo_S12x1280x5120_S12x1280_d2 h_S_)) (broadcastInDim S12x1280x1 ![] bcast_S_S12x1280x1 (constant S_ .f32 0x45A00000#32))) (broadcastInDim S12x1280x1 ![] bcast_S_S12x1280x1 (constant S_ .f32 0x3727C5AC#32)))))) (broadcastInDim S12x1280x5120 ![0, 1, 2] bcast_S1x1x5120_S12x1280x5120_0_1_2 (broadcastInDim S1x1x5120 ![2] bcast_S5120_S1x1x5120_2 g))) bitsLt_bf16_f32

/-- The scaled products with the bias. -/
def refY (x : FVec Ideal S12x1280x5120 .bf16) (g : FVec Ideal S5120 .f32) (w : FVec Ideal S6400x5120 .bf16) (t : FVec Ideal S1 .f32)
    (b : FVec Ideal S6400 .f32) : FVec Ideal S12x1280x6400 .f32 :=
  addf (mulf (Host.dotGeneral dot_S12x1280x5120_S6400x5120_S12x1280x6400_2_1_01_0_n_n none (refH x g) w)
      (broadcastInDim S12x1280x6400 ![0, 1, 2] bcast_S1x1x1_S12x1280x6400_0_1_2 (broadcastInDim S1x1x1 ![2] bcast_S1_S1x1x1_2 t)))
    (broadcastInDim S12x1280x6400 ![0, 1, 2] bcast_S1x1x6400_S12x1280x6400_0_1_2 (broadcastInDim S1x1x6400 ![2] bcast_S6400_S1x1x6400_2 b))

/-- The rotary frequencies. -/
def refFr : FVec Ideal S32 .f32 :=
  Host.powf (broadcastInDim S32 ![] bcast_S_S32 (constant S_ .f32 0x48127C00#32)) (Host.divf (Host.negf (mulf (broadcastInDim S32 ![] bcast_S_S32 (constant S_ .f32 0x40000000#32)) (sitofp .f32 (iotaInDim S32 32 0)))) (broadcastInDim S32 ![] bcast_S_S32 (constant S_ .f32 0x42800000#32)))

/-- The angles. -/
def refAng (ctx : IVec S12 32) : FVec Ideal S12x1280x32 .f32 :=
  mulf (broadcastInDim S12x1280x32 ![0, 1, 2] bcast_S12x1280x1_S12x1280x32_0_1_2 (broadcastInDim S12x1280x1 ![0, 1] bcast_S12x1280_S12x1280x1_0_1 (sitofp .f32 (addi (broadcastInDim S12x1280 ![0, 1] bcast_S12x1_S12x1280_0_1 (broadcastInDim S12x1 ![0] bcast_S12_S12x1_0 ctx)) (broadcastInDim S12x1280 ![0, 1] bcast_S1x1280_S12x1280_0_1 (broadcastInDim S1x1280 ![1] bcast_S1280_S1x1280_1 (iotaInDim S1280 32 0)))))))
    (broadcastInDim S12x1280x32 ![0, 1, 2] bcast_S1x1x32_S12x1280x32_0_1_2 (broadcastInDim S1x1x32 ![2] bcast_S32_S1x1x32_2 refFr))

/-- The query rows. -/
def refQ (y : FVec Ideal S12x1280x6400 .f32) (ang : FVec Ideal S12x1280x32 .f32) : FVec Ideal S15360x5120 .f32 :=
  shapeCast _ (mulf (concatenate S12x1280x80x64 3
    [⟨S12x1280x80x32, subf
      (mulf (extractStridedSlice S12x1280x80x32 ![0, 0, 0, 0] (shapeCast _ (extractStridedSlice S12x1280x5120 ![0, 0, 0] y slices_S12x1280x6400_S12x1280x5120_0_0_0) shapeCasts_S12x1280x5120_S12x1280x80x64) slices_S12x1280x80x64_S12x1280x80x32_0_0_0_0)
        (broadcastInDim S12x1280x80x32 ![0, 1, 2, 3] bcast_S12x1280x1x32_S12x1280x80x32_0_1_2_3 (broadcastInDim S12x1280x1x32 ![0, 1, 3] bcast_S12x1280x32_S12x1280x1x32_0_1_3 (Host.cos ang))))
      (mulf (extractStridedSlice S12x1280x80x32 ![0, 0, 0, 32] (shapeCast _ (extractStridedSlice S12x1280x5120 ![0, 0, 0] y slices_S12x1280x6400_S12x1280x5120_0_0_0) shapeCasts_S12x1280x5120_S12x1280x80x64) slices_S12x1280x80x64_S12x1280x80x32_0_0_0_32)
        (broadcastInDim S12x1280x80x32 ![0, 1, 2, 3] bcast_S12x1280x1x32_S12x1280x80x32_0_1_2_3 (broadcastInDim S12x1280x1x32 ![0, 1, 3] bcast_S12x1280x32_S12x1280x1x32_0_1_3 (Host.sin ang))))⟩,
     ⟨S12x1280x80x32, addf
      (mulf (extractStridedSlice S12x1280x80x32 ![0, 0, 0, 32] (shapeCast _ (extractStridedSlice S12x1280x5120 ![0, 0, 0] y slices_S12x1280x6400_S12x1280x5120_0_0_0) shapeCasts_S12x1280x5120_S12x1280x80x64) slices_S12x1280x80x64_S12x1280x80x32_0_0_0_32)
        (broadcastInDim S12x1280x80x32 ![0, 1, 2, 3] bcast_S12x1280x1x32_S12x1280x80x32_0_1_2_3 (broadcastInDim S12x1280x1x32 ![0, 1, 3] bcast_S12x1280x32_S12x1280x1x32_0_1_3 (Host.cos ang))))
      (mulf (extractStridedSlice S12x1280x80x32 ![0, 0, 0, 0] (shapeCast _ (extractStridedSlice S12x1280x5120 ![0, 0, 0] y slices_S12x1280x6400_S12x1280x5120_0_0_0) shapeCasts_S12x1280x5120_S12x1280x80x64) slices_S12x1280x80x64_S12x1280x80x32_0_0_0_0)
        (broadcastInDim S12x1280x80x32 ![0, 1, 2, 3] bcast_S12x1280x1x32_S12x1280x80x32_0_1_2_3 (broadcastInDim S12x1280x1x32 ![0, 1, 3] bcast_S12x1280x32_S12x1280x1x32_0_1_3 (Host.sin ang))))⟩]
      concatenates_S12x1280x80x32_S12x1280x80x32_S12x1280x80x64_d3)
    (broadcastInDim S12x1280x80x64 ![] bcast_S_S12x1280x80x64 (constant S_ .f32 0x3E000000#32))) shapeCasts_S12x1280x80x64_S15360x5120

/-- The key rows. -/
def refK (y : FVec Ideal S12x1280x6400 .f32) (ang : FVec Ideal S12x1280x32 .f32) : FVec Ideal S15360x640 .f32 :=
  shapeCast _ (concatenate S12x1280x10x64 3
    [⟨S12x1280x10x32, subf
      (mulf (extractStridedSlice S12x1280x10x32 ![0, 0, 0, 0] (shapeCast _ (extractStridedSlice S12x1280x640 ![0, 0, 5120] y slices_S12x1280x6400_S12x1280x640_0_0_5120) shapeCasts_S12x1280x640_S12x1280x10x64) slices_S12x1280x10x64_S12x1280x10x32_0_0_0_0)
        (broadcastInDim S12x1280x10x32 ![0, 1, 2, 3] bcast_S12x1280x1x32_S12x1280x10x32_0_1_2_3 (broadcastInDim S12x1280x1x32 ![0, 1, 3] bcast_S12x1280x32_S12x1280x1x32_0_1_3 (Host.cos ang))))
      (mulf (extractStridedSlice S12x1280x10x32 ![0, 0, 0, 32] (shapeCast _ (extractStridedSlice S12x1280x640 ![0, 0, 5120] y slices_S12x1280x6400_S12x1280x640_0_0_5120) shapeCasts_S12x1280x640_S12x1280x10x64) slices_S12x1280x10x64_S12x1280x10x32_0_0_0_32)
        (broadcastInDim S12x1280x10x32 ![0, 1, 2, 3] bcast_S12x1280x1x32_S12x1280x10x32_0_1_2_3 (broadcastInDim S12x1280x1x32 ![0, 1, 3] bcast_S12x1280x32_S12x1280x1x32_0_1_3 (Host.sin ang))))⟩,
     ⟨S12x1280x10x32, addf
      (mulf (extractStridedSlice S12x1280x10x32 ![0, 0, 0, 32] (shapeCast _ (extractStridedSlice S12x1280x640 ![0, 0, 5120] y slices_S12x1280x6400_S12x1280x640_0_0_5120) shapeCasts_S12x1280x640_S12x1280x10x64) slices_S12x1280x10x64_S12x1280x10x32_0_0_0_32)
        (broadcastInDim S12x1280x10x32 ![0, 1, 2, 3] bcast_S12x1280x1x32_S12x1280x10x32_0_1_2_3 (broadcastInDim S12x1280x1x32 ![0, 1, 3] bcast_S12x1280x32_S12x1280x1x32_0_1_3 (Host.cos ang))))
      (mulf (extractStridedSlice S12x1280x10x32 ![0, 0, 0, 0] (shapeCast _ (extractStridedSlice S12x1280x640 ![0, 0, 5120] y slices_S12x1280x6400_S12x1280x640_0_0_5120) shapeCasts_S12x1280x640_S12x1280x10x64) slices_S12x1280x10x64_S12x1280x10x32_0_0_0_0)
        (broadcastInDim S12x1280x10x32 ![0, 1, 2, 3] bcast_S12x1280x1x32_S12x1280x10x32_0_1_2_3 (broadcastInDim S12x1280x1x32 ![0, 1, 3] bcast_S12x1280x32_S12x1280x1x32_0_1_3 (Host.sin ang))))⟩]
      concatenates_S12x1280x10x32_S12x1280x10x32_S12x1280x10x64_d3) shapeCasts_S12x1280x10x64_S15360x640

/-- The value rows. -/
def refV (y : FVec Ideal S12x1280x6400 .f32) : FVec Ideal S15360x640 .f32 :=
  shapeCast _ (extractStridedSlice S12x1280x640 ![0, 0, 5760] y slices_S12x1280x6400_S12x1280x640_0_0_5760) shapeCasts_S12x1280x640_S15360x640

variable (A : Args)

theorem refH_at (a : Fin 12) (s : Fin 1280) (k : Fin 5120) (n : ℕ) (hn : n = a.val * 1280 + s.val) :
    refH A.x A.g (ix3 a s k) = hN A n k := by
  have ha : (⟨n / 1280 % 12, Nat.mod_lt _ (by decide)⟩ : Fin 12) = a := Fin.ext (by show n / 1280 % 12 = a.val; omega)
  have hs : (⟨n % 1280, Nat.mod_lt _ (by decide)⟩ : Fin 1280) = s := Fin.ext (by show n % 1280 = s.val; omega)
  unfold hN tok
  rw [ha, hs]
  pointwise [refH]

theorem refY_at (a : Fin 12) (s : Fin 1280) (o : Fin 6400) (n : ℕ) (hn : n = a.val * 1280 + s.val) :
    refY A.x A.g A.w A.t A.b (ix3 a s o) = yN A n o.val := by
  have ho : (⟨o.val % 6400, Nat.mod_lt _ (by decide)⟩ : Fin 6400) = o := Fin.ext (by show o.val % 6400 = o.val; omega)
  unfold yN
  rw [ho]
  simp only [← refH_at A a s _ n hn]
  unfold refY
  generalize refH A.x A.g = h
  pointwise []
  congr 1
  congr 1
  exact Finset.sum_congr rfl fun k _ => mul_comm _ _

theorem refAng_at (hfr : A.fr = refFr) (a : Fin 12) (s : Fin 1280) (f : Fin 32) (n : ℕ) (hn : n = a.val * 1280 + s.val) :
    refAng A.ctx (ix3 a s f) = angN A n f := by
  have ha : (⟨n / 1280 % 12, Nat.mod_lt _ (by decide)⟩ : Fin 12) = a := Fin.ext (by show n / 1280 % 12 = a.val; omega)
  have hs : n % 1280 = s.val := by omega
  unfold angN
  rw [ha, hs, hfr]
  unfold refAng
  generalize refFr = fr
  pointwise []

/-- What the products and the angles hold at token `n`. -/
structure Holds (y : FVec Ideal S12x1280x6400 .f32) (ang : FVec Ideal S12x1280x32 .f32) : Prop where
  y : ∀ (a : Fin 12) (s : Fin 1280) (o : Fin 6400) (n : ℕ), n = a.val * 1280 + s.val → y (ix3 a s o) = yN A n o.val
  ang : ∀ (a : Fin 12) (s : Fin 1280) (f : Fin 32) (n : ℕ), n = a.val * 1280 + s.val → ang (ix3 a s f) = angN A n f

variable {A} {y : FVec Ideal S12x1280x6400 .f32} {ang : FVec Ideal S12x1280x32 .f32}

variable (A) in
theorem zN_q (n o : ℕ) (h : o < 5120) : zN A n o = rotN A n o * Ideal.ofBits FTy.f32 1040187392#32 := if_pos h

variable (A) in
theorem zN_k (n o : ℕ) (h : ¬ o < 5120) (h' : o < 5760) : zN A n o = rotN A n o := (if_neg h).trans (if_pos h')

variable (A) in
theorem zN_v (n o : ℕ) (h : ¬ o < 5760) : zN A n o = yN A n o := (if_neg (by omega)).trans (if_neg h)

theorem refV_at (H : Holds A y ang) (n : Fin 15360) (o : Fin 640) : refV y (ix2 n o) = zN A n (5760 + o.val) := by
  have hn : n.val = n.val / 1280 * 1280 + n.val % 1280 := by omega
  pointwise [refV]
  rw [H.y ⟨n.val / 1280, by omega⟩ ⟨n.val % 1280, by omega⟩ _ n.val hn]
  unfold zN
  rw [if_neg (by omega), if_neg (by omega)]

theorem rot_lo (n o : ℕ) (h : o % 64 < 32) (f : Fin 32) (hf : f.val = o % 32) (o1 : ℕ) (ho1 : o1 = o) (o' : ℕ) (ho' : o' = o + 32) :
    yN A n o1 * Ideal.cos (angN A n f) - yN A n o' * Ideal.sin (angN A n f) = rotN A n o := by
  obtain rfl : f = fN o := Fin.ext hf
  subst ho' ho1
  unfold rotN
  rw [if_pos h]

theorem rot_hi (n o : ℕ) (h : ¬ o % 64 < 32) (f : Fin 32) (hf : f.val = o % 32) (o1 : ℕ) (ho1 : o1 = o) (o' : ℕ) (ho' : o' = o - 32) :
    yN A n o1 * Ideal.cos (angN A n f) + yN A n o' * Ideal.sin (angN A n f) = rotN A n o := by
  obtain rfl : f = fN o := Fin.ext hf
  subst ho' ho1
  unfold rotN
  rw [if_neg h]

theorem refQ_at (H : Holds A y ang) (n : Fin 15360) (o : Fin 5120) : refQ y ang (ix2 n o) = zN A n o.val := by
  have hn : n.val = n.val / 1280 * 1280 + n.val % 1280 := by omega
  have ho := o.isLt
  have hY := fun o => H.y ⟨n.val / 1280, by omega⟩ ⟨n.val % 1280, by omega⟩ o n.val hn
  have hA := fun f => H.ang ⟨n.val / 1280, by omega⟩ ⟨n.val % 1280, by omega⟩ f n.val hn
  pointwise [refQ]
  refine Eq.trans (congrArg (fun e : EReal => e * _) ?_) (zN_q A n o ho).symm
  split
  · rename_i h
    simp only [hY, hA]
    exact rot_lo _ _ h _ (by show o.val % 64 = _; omega) _ rfl _ (by show o.val / 64 * 64 + (32 + o.val % 64) = _; omega)
  · rename_i h
    simp only [hY, hA]
    exact rot_hi _ _ h _ (by show o.val % 64 - 32 = _; omega) _ (by show o.val / 64 * 64 + (32 + (o.val % 64 - 32)) = _; omega)
      _ (by show o.val / 64 * 64 + (o.val % 64 - 32) = _; omega)

theorem refK_at (H : Holds A y ang) (n : Fin 15360) (o : Fin 640) : refK y ang (ix2 n o) = zN A n (5120 + o.val) := by
  have hn : n.val = n.val / 1280 * 1280 + n.val % 1280 := by omega
  have ho := o.isLt
  have hY := fun o => H.y ⟨n.val / 1280, by omega⟩ ⟨n.val % 1280, by omega⟩ o n.val hn
  have hA := fun f => H.ang ⟨n.val / 1280, by omega⟩ ⟨n.val % 1280, by omega⟩ f n.val hn
  pointwise [refK]
  refine Eq.trans ?_ (zN_k A n (5120 + o.val) (by omega) (by omega)).symm
  split
  · rename_i h
    simp only [hY, hA]
    exact rot_lo _ _ (by omega) _ (by show o.val % 64 = _; omega) _ (by omega) _ (by omega)
  · rename_i h
    simp only [hY, hA]
    exact rot_hi _ _ (by omega) _ (by show o.val % 64 - 32 = _; omega) _ (by omega) _ (by omega)

/-- The query, key and value rows of every token, before and after the transposition. -/
def refOut (q : FVec Ideal S15360x5120 .f32) (k v : FVec Ideal S15360x640 .f32) : FVec Ideal S6400x15360 .bf16 :=
  transpose S6400x15360 [1, 0] (truncf .bf16 (concatenate S15360x6400 1 [⟨S15360x5120, q⟩, ⟨S15360x640, k⟩, ⟨S15360x640, v⟩]
    concatenates_S15360x5120_S15360x640_S15360x640_S15360x6400_d1) bitsLt_bf16_f32) transposes_S15360x6400_S6400x15360_1_0

/-- The key and value rows of every token at full precision. -/
def refKv (k v : FVec Ideal S15360x640 .f32) : FVec Ideal S1280x15360 .f32 :=
  transpose S1280x15360 [1, 0] (concatenate S15360x1280 1 [⟨S15360x640, k⟩, ⟨S15360x640, v⟩]
    concatenates_S15360x640_S15360x640_S15360x1280_d1) transposes_S15360x1280_S1280x15360_1_0

theorem refOut_at (H : Holds A y ang) (o : Fin 6400) (n : Fin 15360) :
    refOut (refQ y ang) (refK y ang) (refV y) (ix2 o n) = zN A n o.val := by
  have hq := refQ_at H n
  have hk := refK_at H n
  have hv := refV_at H n
  unfold refOut
  generalize refQ y ang = q at *
  generalize refK y ang = k at *
  generalize refV y = v at *
  pointwise []
  split
  · rw [hq]
  split
  · rw [hk]; exact congrArg (zN A n.val) (by dsimp only; omega)
  · rw [hv]; exact congrArg (zN A n.val) (by dsimp only; omega)

theorem refKv_at (H : Holds A y ang) (o : Fin 1280) (n : Fin 15360) :
    refKv (refK y ang) (refV y) (ix2 o n) = zN A n (5120 + o.val) := by
  have hk := refK_at H n
  have hv := refV_at H n
  unfold refKv
  generalize refK y ang = k at *
  generalize refV y = v at *
  pointwise []
  split
  · rw [hk]
  · rw [hv]; exact congrArg (zN A n.val) (by dsimp only; omega)

/-- The arguments as the reference finds them. -/
def refArgs (m : (ℓ : Loc nD τ sig) → Buf (Elt Ideal) ℓ) (c : Dev nD) : Args where
  x := m ((c.tc : Thread nD τ).loc main_arg0)
  g := m ((c.tc : Thread nD τ).loc main_arg1)
  w := m ((c.tc : Thread nD τ).loc main_arg2)
  t := m ((c.tc : Thread nD τ).loc main_arg3)
  b := m ((c.tc : Thread nD τ).loc main_arg4)
  ctx := m ((c.tc : Thread nD τ).loc main_arg5)
  fr := refFr

theorem holds (m : (ℓ : Loc nD τ sig) → Buf (Elt Ideal) ℓ) (c : Dev nD) : Holds (refArgs m c)
    (refY (refArgs m c).x (refArgs m c).g (refArgs m c).w (refArgs m c).t (refArgs m c).b) (refAng (refArgs m c).ctx) where
  y := refY_at _
  ang := refAng_at _ rfl

theorem res84_at (m : (ℓ : Loc nD τ sig) → Buf (Elt Ideal) ℓ) (c : Dev nD) (o : Fin 6400) (n : Fin 15360) :
    (Value.res_main_v84 m c : FVec Ideal S6400x15360 .bf16) (ix2 o n) = zN (refArgs m c) n o.val :=
  refOut_at (holds m c) o n

theorem res86_at (m : (ℓ : Loc nD τ sig) → Buf (Elt Ideal) ℓ) (c : Dev nD) (o : Fin 1280) (n : Fin 15360) :
    (Value.res_main_v86 m c : FVec Ideal S1280x15360 .f32) (ix2 o n) = zN (refArgs m c) n (5120 + o.val) :=
  refKv_at (holds m c) o n

end Cert.Proof.Qkv

end
-- ==== Proof.Qkv.Blocks.lean ====
/-
  What each input block of the projection's kernel holds, over the launch's arguments.
-/
module

public import proofs.«01_k».proof.Proof.Qkv.Reference
public import proofs.«01_k».proof.Proof.Gen.QkvKernelIdeal.Frame
public import Idealize.ShloMosaic.Lib.StableHlo.Run
public import Idealize.ShloMosaic.Lib.Tactic

@[expose] public section

set_option maxRecDepth 16384

noncomputable section

namespace Cert.Proof.Qkv

open Idealize.ShloMosaic Idealize.ShloMosaic.TcCoe Idealize.SL.Sem
open Cert.QkvKernelIdeal Cert.QkvKernelIdeal.Gen
open scoped BigOperators

variable (m : (ℓ : Loc nD τ sig) → Buf (Elt Ideal) ℓ) (c : Dev nD)

/-- The arguments as the kernel finds them. -/
def kArgs : Args where
  x := m ((c : Thread nD τ).loc main_arg0)
  g := m ((c : Thread nD τ).loc main_arg1)
  w := m ((c : Thread nD τ).loc main_arg2)
  t := m ((c : Thread nD τ).loc main_arg3)
  b := m ((c : Thread nD τ).loc main_arg4)
  ctx := m ((c : Thread nD τ).loc main_arg5)
  fr := refFr

theorem t_lt (t : Fin cfg0.N) : t.val < 160 := lt_of_lt_of_eq t.isLt N_0

theorem idx2 : ∀ t : Fin cfg0.N, win0_2.index t 0 = min (t.val / 10) 14 * 8 + t.val % 10 % 8 ∧ win0_2.index t 1 = 0 :=
  (by decide +kernel : ∀ t : Fin grid0.N, win0_2.index t 0 = min (t.val / 10) 14 * 8 + t.val % 10 % 8 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, 10 ≤ t.val → win0_4.index t 0 = t.val % 10 ∧ win0_4.index t 1 = 0 :=
  (by decide +kernel : ∀ t : Fin grid0.N, 10 ≤ t.val → win0_4.index t 0 = t.val % 10 ∧ win0_4.index t 1 = 0)
theorem idx5 : ∀ t : Fin cfg0.N, win0_5.index t 0 = t.val % 10 ∧ win0_5.index t 1 = 0 :=
  (by decide +kernel : ∀ t : Fin grid0.N, win0_5.index t 0 = t.val % 10 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, 10 ≤ t.val → win0_7.index t 0 = t.val % 10 ∧ win0_7.index t 1 = t.val / 10 - 1 :=
  (by decide +kernel : ∀ t : Fin grid0.N, 10 ≤ t.val → win0_7.index t 0 = t.val % 10 ∧ win0_7.index t 1 = t.val / 10 - 1)
theorem idx8 : ∀ t : Fin cfg0.N, 10 ≤ t.val → win0_8.index t 0 = t.val % 10 - 8 ∧ win0_8.index t 1 = t.val / 10 - 1 :=
  (by decide +kernel : ∀ t : Fin grid0.N, 10 ≤ t.val → win0_8.index t 0 = t.val % 10 - 8 ∧ win0_8.index t 1 = t.val / 10 - 1)

/-! ## The host's preparation -/

theorem V_x : V m c main_v0 = shapeCast S15360x5120 (m ((c : Thread nD τ).loc main_arg0)) shapeCasts_S12x1280x5120_S15360x5120 := by
  unfold V
  after_results <;> rfl

theorem V_g : V m c main_v11 = shapeCast S1x5120 (m ((c : Thread nD τ).loc main_arg1)) shapeCasts_S5120_S1x5120 := by
  unfold V
  after_results <;> rfl

theorem V_b : V m c main_v12 = shapeCast S6400x1 (m ((c : Thread nD τ).loc main_arg4)) shapeCasts_S6400_S6400x1 := by
  unfold V
  after_results <;> rfl

theorem V_fr : V m c main_v10 = broadcastInDim S32x128 ![0, 1] bcast_S32x1_S32x128_0_1 (broadcastInDim S32x1 ![0] bcast_S32_S32x1_0 refFr) := by
  unfold V
  after_results <;> rfl

/-! ## The blocks -/

theorem blk0 (t : Fin cfg0.N) (b : Fin 12) : (iblk m c 0 t : Vec Ideal S12 .i32) (ix1 b) = (kArgs m c).ctx (ix1 b) := by
  unfold iblk
  rw [View.read_apply]
  show V m c main_arg5 _ = _
  rw [V_main_arg5]
  show m _ _ = m _ _
  congr 1
  funext a
  apply Fin.ext
  match a with
  | ⟨0, _⟩ => show 0 * 12 + 1 * b.val = b.val; omega

theorem blk1 (t : Fin cfg0.N) : (iblk m c 1 t : Vec Ideal S1 .f32) (ix1 0) = (kArgs m c).t (ix1 0) := by
  unfold iblk
  rw [View.read_apply]
  show V m c main_arg3 _ = _
  rw [V_main_arg3]
  show m _ _ = m _ _
  congr 1
  funext a
  apply Fin.ext
  match a with
  | ⟨0, _⟩ => rfl

theorem blk2 (t : Fin cfg0.N) (r : Fin 128) (k : Fin 5120) :
    (iblk m c 2 t : Vec Ideal S128x5120 .bf16) (ix2 r k)
      = tok (kArgs m c) (min (t.val / 10) 14 * 1024 + (128 * (t.val % 10 % 8) + r.val)) k := by
  have ht := t_lt t
  have hn : min (t.val / 10) 14 * 1024 + (128 * (t.val % 10 % 8) + r.val) < 15360 := by omega
  have h : (iblk m c 2 t : Vec Ideal S128x5120 .bf16) (ix2 r k)
      = shapeCast S15360x5120 (kArgs m c).x shapeCasts_S12x1280x5120_S15360x5120 (ix2 ⟨_, hn⟩ k) := by
    unfold iblk
    rw [View.read_apply]
    show V m c main_v0 _ = _
    rw [V_x]
    show shapeCast S15360x5120 (kArgs m c).x _ _ = _
    congr 1
    funext a
    apply Fin.ext
    match a with
    | ⟨0, _⟩ => show win0_2.index t 0 * 128 + 1 * r.val = _; rw [(idx2 t).1]; show _ = min (t.val / 10) 14 * 1024 + (128 * (t.val % 10 % 8) + r.val); omega
    | ⟨1, _⟩ => show win0_2.index t 1 * 5120 + 1 * k.val = k.val; rw [(idx2 t).2]; omega
  rw [h]
  unfold tok
  generalize (kArgs m c).x = x
  generalize min (t.val / 10) 14 * 1024 + (128 * (t.val % 10 % 8) + r.val) = n at *
  have ha : (⟨n / 1280 % 12, Nat.mod_lt _ (by decide)⟩ : Fin 12) = ⟨n / 1280, by omega⟩ := Fin.ext (by show n / 1280 % 12 = n / 1280; omega)
  rw [ha]
  pointwise []

theorem blk3 (t : Fin cfg0.N) (k : Fin 5120) : (iblk m c 3 t : Vec Ideal S1x5120 .f32) (ix2 0 k) = (kArgs m c).g (ix1 k) := by
  have h : (iblk m c 3 t : Vec Ideal S1x5120 .f32) (ix2 0 k)
      = shapeCast S1x5120 (kArgs m c).g shapeCasts_S5120_S1x5120 (ix2 0 k) := by
    unfold iblk
    rw [View.read_apply]
    show V m c main_v11 _ = _
    rw [V_g]
    show shapeCast S1x5120 (kArgs m c).g _ _ = _
    congr 1
    funext a
    apply Fin.ext
    match a with
    | ⟨0, _⟩ => show win0_3.index t 0 * 1 + 1 * 0 = 0; rw [(idx3 t).1]
    | ⟨1, _⟩ => show win0_3.index t 1 * 5120 + 1 * k.val = k.val; rw [(idx3 t).2]; omega
  rw [h, shapeCast_addUnit_apply]
  congr 1
  funext a
  match a with
  | ⟨0, _⟩ => rfl

theorem blk4 (t : Fin cfg0.N) (h10 : 10 ≤ t.val) (o : Fin 640) (k : Fin 5120) :
    (iblk m c 4 t : Vec Ideal S640x5120 .bf16) (ix2 o k)
      = (kArgs m c).w (ix2 ⟨(t.val % 10 * 640 + o.val) % 6400, Nat.mod_lt _ (by decide)⟩ k) := by
  have ht := t_lt t
  unfold iblk
  rw [View.read_apply]
  show V m c main_arg2 _ = _
  rw [V_main_arg2]
  show m _ _ = m _ _
  congr 1
  funext a
  apply Fin.ext
  match a with
  | ⟨0, _⟩ => show win0_4.index t 0 * 640 + 1 * o.val = (t.val % 10 * 640 + o.val) % 6400; rw [(idx4 t h10).1]; omega
  | ⟨1, _⟩ => show win0_4.index t 1 * 5120 + 1 * k.val = k.val; rw [(idx4 t h10).2]; omega

theorem blk5 (t : Fin cfg0.N) (o : Fin 640) :
    (iblk m c 5 t : Vec Ideal S640x1 .f32) (ix2 o 0)
      = (kArgs m c).b (ix1 ⟨(t.val % 10 * 640 + o.val) % 6400, Nat.mod_lt _ (by decide)⟩) := by
  have ht := t_lt t
  have h : (iblk m c 5 t : Vec Ideal S640x1 .f32) (ix2 o 0)
      = shapeCast S6400x1 (kArgs m c).b shapeCasts_S6400_S6400x1 (ix2 ⟨(t.val % 10 * 640 + o.val) % 6400, Nat.mod_lt _ (by decide)⟩ 0) := by
    unfold iblk
    rw [View.read_apply]
    show V m c main_v12 _ = _
    rw [V_b]
    show shapeCast S6400x1 (kArgs m c).b _ _ = _
    congr 1
    funext a
    apply Fin.ext
    match a with
    | ⟨0, _⟩ => show win0_5.index t 0 * 640 + 1 * o.val = (t.val % 10 * 640 + o.val) % 6400; rw [(idx5 t).1]; omega
    | ⟨1, _⟩ => show win0_5.index t 1 * 1 + 1 * 0 = 0; rw [(idx5 t).2]
  rw [h]
  generalize (kArgs m c).b = b
  generalize (⟨(t.val % 10 * 640 + o.val) % 6400, Nat.mod_lt _ (by decide)⟩ : Fin 6400) = q
  pointwise []

theorem blk6 (t : Fin cfg0.N) (f : Fin 32) (l : Fin 128) :
    (iblk m c 6 t : Vec Ideal S32x128 .f32) (ix2 f l) = (kArgs m c).fr (ix1 f) := by
  have h : (iblk m c 6 t : Vec Ideal S32x128 .f32) (ix2 f l)
      = broadcastInDim S32x128 ![0, 1] bcast_S32x1_S32x128_0_1 (broadcastInDim S32x1 ![0] bcast_S32_S32x1_0 refFr) (ix2 f l) := by
    unfold iblk
    rw [View.read_apply]
    show V m c main_v10 _ = _
    rw [V_fr]
    generalize (broadcastInDim S32x128 ![0, 1] bcast_S32x1_S32x128_0_1 (broadcastInDim S32x1 ![0] bcast_S32_S32x1_0 refFr) : FVec Ideal S32x128 .f32) = y
    congr 1
    funext a
    apply Fin.ext
    match a with
    | ⟨0, _⟩ => show win0_6.index t 0 * 32 + 1 * f.val = f.val; rw [(idx6 t).1]; omega
    | ⟨1, _⟩ => show win0_6.index t 1 * 128 + 1 * l.val = l.val; rw [(idx6 t).2]; omega
  rw [h]
  show _ = refFr (ix1 f)
  generalize refFr = fr
  pointwise []

end Cert.Proof.Qkv

end
-- ==== Proof.Qkv.RunB.lean ====
/-
  The projection's kernel body at every later point, where a product is stored too: the stores it makes.
-/
module

public import proofs.«01_k».proof.Proof.Qkv.Runs

@[expose] public section

set_option maxRecDepth 16384

noncomputable section

namespace Cert.Proof.Qkv

open Cert.QkvKernelIdeal Cert.QkvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body from point 10 on, with the stores into the outputs and the scratch as the run finds them. -/
noncomputable def kernelRun0_B (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : ¬cond0_0 i) (hc1 : cond0_1 i)
    (x0 : Vec F S12 .i32) (x1 : Vec F S1 .f32) (x2 : Vec F S128x5120 .bf16) (x3 : Vec F S1x5120 .f32) (x4 : Vec F S640x5120 .bf16) (x5 : Vec F S640x1 .f32) (x6 : Vec F S32x128 .f32)
    (xs0 : Vec F S2x1024x5120 .bf16) (xs1 : Vec F S2x2x8x32x128 .f32) :
    (L7 : List (View.Piece (Elt F) S640x1024 .bf16)) ×' (L8 : List (View.Piece (Elt F) S640x1024 .f32)) ×' (L11 : List (View.Piece (Elt F) S2x1024x5120 .bf16)) ×' (L12 : List (View.Piece (Elt F) S2x2x8x32x128 .f32)) ×'
      (∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs0) L11) ∗ (arg12.view.loc (c : Thread nD τ) ↦[arg12.view.set]{fullShare} arg12.view.writes (Elt F) (harg12.unread xs1) L12)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12) K) := by
    refine ⟨?_, ?_, ?_, ?_, fun E K => ?run⟩
    case run =>
      simp only [cc0_qkv_proj_eq_skeleton]; unfold cc0_qkv_proj_skel
      simp only [k0_part63_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; iexact H7
      isplitl [H8]
      · iexists _; iexact H8
      isplitl [HS0]
      · iexact HS0
      iexact HS1

end Cert.Proof.Qkv

end
-- ==== Proof.Qkv.Tables.lean ====
/-
  What a point of the projection's kernel leaves in its two tables: one row chunk of normalised tokens, and the cosines and
  sines of that chunk's angles; everything else as it was.
-/
module

public import proofs.«01_k».proof.Proof.Qkv.RunA
public import proofs.«01_k».proof.Proof.Qkv.RunB
public import proofs.«01_k».proof.Proof.Qkv.Spec
public import Idealize.ShloMosaic.Lib.Pointwise
public import Idealize.ShloMosaic.Lib.WritesUnit
public import Idealize.ShloMosaic.Lib.Pipeline.Value
public import Idealize.ShloMosaic.Lib.Pipeline.ValueKit.Tiles
import Idealize.ShloMosaic.Lib.Tactic
import all proofs.«01_k».proof.Proof.Qkv.RunA
import all proofs.«01_k».proof.Proof.Qkv.RunB

@[expose] public section

set_option maxRecDepth 16384

noncomputable section

namespace Cert.Proof.Qkv

open Idealize.ShloMosaic Idealize.ShloMosaic.TcCoe Idealize.ShloMosaic.Tactic Idealize.SL.Sem
open Cert.QkvKernelIdeal Cert.QkvKernelIdeal.Gen
open scoped BigOperators

/-- The slot of the tables a point writes. -/
abbrev slotW (i : grid0.Coords) : ℕ := (Scalar.indexCast (Scalar.remsi (BitVec.ofNat 32 (i 0).val) 2#32)).toNat
/-- The chunk of that slot a point writes. -/
abbrev chW (i : grid0.Coords) : ℕ := (Scalar.indexCast (Scalar.remsi (BitVec.ofNat 32 (i 1).val) 8#32)).toNat
/-- The first row of that chunk. -/
abbrev rowW (i : grid0.Coords) : ℕ := (Scalar.indexCast (Scalar.muli (Scalar.remsi (BitVec.ofNat 32 (i 1).val) 8#32) 128#32)).toNat
/-- The block of 128 tokens a point reads, as a word. -/
abbrev blkV (i : grid0.Coords) : BitVec 32 :=
  Scalar.addi (Scalar.muli (Scalar.minsi (BitVec.ofNat 32 (i 0).val) 14#32) 8#32) (Scalar.remsi (BitVec.ofNat 32 (i 1).val) 8#32)
/-- The batch row of that block, as the body computes it. -/
abbrev batV (i : grid0.Coords) : BitVec 32 :=
  Scalar.select (Scalar.andi (Scalar.cmpi .ne
      (Scalar.subi (Scalar.extui (Scalar.cmpi .sgt (blkV i) 0#32)) (Scalar.extui (Scalar.cmpi .slt (blkV i) 0#32)) : BitVec 32)
      (Scalar.subi (Scalar.extui (Scalar.cmpi .sgt 10#32 0#32)) (Scalar.extui (Scalar.cmpi .slt 10#32 0#32)) : BitVec 32))
    (Scalar.cmpi .ne (Scalar.remsi (blkV i) 10#32) 0#32)) (Scalar.subi (Scalar.divsi (blkV i) 10#32) 1#32)
    (Scalar.divsi (blkV i) 10#32)
/-- The batch row as an index. -/
abbrev batW (i : grid0.Coords) : ℕ := (Scalar.indexCast (batV i)).toNat

/-- The angles of a point's chunk. -/
def angV (i : grid0.Coords) (x0 : Vec Ideal S12 .i32) (x6 : Vec Ideal S32x128 .f32) : FVec Ideal S32x128 .f32 :=
  k0_pay563 (BitVec.ofNat 32 (i 0).val) (Scalar.remsi (BitVec.ofNat 32 (i 1).val) 8#32)
    (x0 (ix1 (⟨batW i % 12, Nat.mod_lt _ (by decide)⟩ : Fin 12))) x6

/-- A point's normalised rows. -/
def nrmV (x2 : Vec Ideal S128x5120 .bf16) (x3 : Vec Ideal S1x5120 .f32) (r : Fin 128) (k : Fin 5120) : EReal :=
  x2 (ix2 r k) * Ideal.rsqrt (Ideal.div (∑ l, x2 (ix2 r l) * x2 (ix2 r l)) (Ideal.ofBits FTy.f32 1168113664#32)
    + Ideal.ofBits FTy.f32 925353388#32) * x3 (ix2 0 k)

theorem pay6_at (x2 : Vec Ideal S128x5120 .bf16) (x3 : Vec Ideal S1x5120 .f32) (r : Fin 128) (k : Fin 5120) :
    k0_pay6 (F := Ideal) x2 x3 (ix3 0 r k) = nrmV x2 x3 r k := by
  unfold nrmV
  pointwise [k0_pay6]

theorem pay562_at (x2 : Vec Ideal S128x5120 .bf16) (x3 : Vec Ideal S1x5120 .f32) (r : Fin 128) (k : Fin 5120) :
    k0_pay562 (F := Ideal) (k0_pay561 x2 x3) (ix3 0 r k) = nrmV x2 x3 r k := by
  unfold nrmV
  pointwise [k0_pay562, k0_pay561]

theorem cos_at (v : FVec Ideal S32x128 .f32) (f : Fin 32) (l : Fin 128) :
    k0_pay4 (F := Ideal) (Idealize.ShloMosaic.cos v) (ix5 0 0 0 f l) = Ideal.cos (v (ix2 f l)) := by
  pointwise [k0_pay4]

theorem sin_at (v : FVec Ideal S32x128 .f32) (f : Fin 32) (l : Fin 128) :
    k0_pay5 (F := Ideal) v (ix5 0 0 0 f l) = Ideal.sin (v (ix2 f l)) := by
  pointwise [k0_pay5]

/-- A load of a single word of the context lengths. -/
theorem ld_word (x0 : Vec Ideal S12 .i32) (n : ℕ) (inb : ∀ a, (![n] : Fin 1 → ℕ) a + S1.size a ≤ S12.size a) (h) :
    View.ld (S := S12) x0 (Rect.unit ![n] S1.size inb) (Shape.Idx.first h)
      = x0 (ix1 (⟨n % 12, Nat.mod_lt _ (by decide)⟩ : Fin 12)) := by
  have hn : n + 1 ≤ 12 := inb 0
  refine View.ld_unit_apply_of _ _ _ _ _ _ fun a => ?_
  match a with
  | ⟨0, _⟩ => show n % 12 = n + 0; omega

/-- The angles as the body computes them from its loads. -/
theorem angV_ld (i : grid0.Coords) (x0 : Vec Ideal S12 .i32) (x6 : Vec Ideal S32x128 .f32)
    (b : ∀ a, (![batW i] : Fin 1 → ℕ) a + S1.size a ≤ S12.size a) (h) (b' : ∀ a, (![0, 0] : Fin 2 → ℕ) a + S32x128.size a ≤ S32x128.size a) :
    k0_pay563 (F := Ideal) (BitVec.ofNat 32 (i 0).val) (Scalar.remsi (BitVec.ofNat 32 (i 1).val) 8#32)
      (View.ld (S := S12) x0 (Rect.unit ![batW i] S1.size b) (Shape.Idx.first h))
      (View.ld (S := S32x128) x6 (Rect.unit ![0, 0] S32x128.size b')) = angV i x0 x6 := by
  have e0 : (![0, 0] : Fin 2 → ℕ) = fun _ => 0 := by
    funext a
    match a with
    | ⟨0, _⟩ => rfl
    | ⟨1, _⟩ => rfl
  rw [ld_word x0 (batW i) b h, View.ld_unit_zero (S := S32x128) e0 b' x6]
  rfl

theorem rows_ld (x2 : Vec Ideal S128x5120 .bf16) (b : ∀ a, (![0, 0] : Fin 2 → ℕ) a + S128x5120.size a ≤ S128x5120.size a) :
    View.ld (S := S128x5120) x2 (Rect.unit ![0, 0] S128x5120.size b) = x2 := by
  refine View.ld_unit_zero (S := S128x5120) ?_ b x2
  funext a
  match a with
  | ⟨0, _⟩ => rfl
  | ⟨1, _⟩ => rfl

theorem gain_ld (x3 : Vec Ideal S1x5120 .f32) (b : ∀ a, (![0, 0] : Fin 2 → ℕ) a + S1x5120.size a ≤ S1x5120.size a) :
    View.ld (S := S1x5120) x3 (Rect.unit ![0, 0] S1x5120.size b) = x3 := by
  refine View.ld_unit_zero (S := S1x5120) ?_ b x3
  funext a
  match a with
  | ⟨0, _⟩ => rfl
  | ⟨1, _⟩ => rfl

/-- What a point leaves in the tables, beside what they held. -/
structure Wrote (i : grid0.Coords) (x0 : Vec Ideal S12 .i32) (x2 : Vec Ideal S128x5120 .bf16) (x3 : Vec Ideal S1x5120 .f32)
    (x6 : Vec Ideal S32x128 .f32) (xs0 hs : Vec Ideal S2x1024x5120 .bf16) (xs1 cs : Vec Ideal S2x2x8x32x128 .f32) : Prop where
  h_in : ∀ (s : Fin 2) (r' : Fin 1024) (r : Fin 128) (k : Fin 5120), s.val = slotW i → r'.val = rowW i + r.val →
    hs (ix3 s r' k) = nrmV x2 x3 r k
  h_slot : ∀ (s : Fin 2) (r' : Fin 1024) (k : Fin 5120), s.val ≠ slotW i → hs (ix3 s r' k) = xs0 (ix3 s r' k)
  h_row : ∀ (s : Fin 2) (r' : Fin 1024) (k : Fin 5120), (r'.val < rowW i ∨ rowW i + 128 ≤ r'.val) → hs (ix3 s r' k) = xs0 (ix3 s r' k)
  cos_in : ∀ (s : Fin 2) (q : Fin 8) (f : Fin 32) (l : Fin 128), s.val = slotW i → q.val = chW i →
    cs (ix5 s 0 q f l) = Ideal.cos (angV i x0 x6 (ix2 f l))
  sin_in : ∀ (s : Fin 2) (q : Fin 8) (f : Fin 32) (l : Fin 128), s.val = slotW i → q.val = chW i →
    cs (ix5 s 1 q f l) = Ideal.sin (angV i x0 x6 (ix2 f l))
  c_slot : ∀ (s : Fin 2) (p : Fin 2) (q : Fin 8) (f : Fin 32) (l : Fin 128), s.val ≠ slotW i →
    cs (ix5 s p q f l) = xs1 (ix5 s p q f l)
  c_ch : ∀ (s : Fin 2) (p : Fin 2) (q : Fin 8) (f : Fin 32) (l : Fin 128), q.val ≠ chW i →
    cs (ix5 s p q f l) = xs1 (ix5 s p q f l)

/-- The tables after the three stores of a point. -/
theorem wrote_of (i : grid0.Coords) (arg11 : Memref sig .tc .vmem S2x1024x5120 .bf16) (harg11 : arg11.IsWhole)
    (arg12 : Memref sig .tc .vmem S2x2x8x32x128 .f32) (harg12 : arg12.IsWhole)
    (x0 : Vec Ideal S12 .i32) (x2 : Vec Ideal S128x5120 .bf16) (x3 : Vec Ideal S1x5120 .f32) (x6 : Vec Ideal S32x128 .f32)
    (xs0 : Vec Ideal S2x1024x5120 .bf16) (xs1 : Vec Ideal S2x2x8x32x128 .f32)
    (b11) (bs) (bc) (h : FVec Ideal S1x128x5120 .bf16) (ws wc : FVec Ideal S1x1x1x32x128 .f32)
    (hh : ∀ r k, h (ix3 0 r k) = nrmV x2 x3 r k) (hs : ws = k0_pay5 (angV i x0 x6))
    (hc : wc = k0_pay4 (Idealize.ShloMosaic.cos (angV i x0 x6))) :
    Wrote i x0 x2 x3 x6 xs0 (arg11.view.read (Elt Ideal) (arg11.view.writes (Elt Ideal) (harg11.unread xs0)
        [⟨Rect.unit ![slotW i, rowW i, 0] S1x128x5120.size b11, h⟩])) xs1
      (arg12.view.read (Elt Ideal) (arg12.view.writes (Elt Ideal) (harg12.unread xs1)
        [⟨Rect.unit ![slotW i, 1, chW i, 0, 0] S1x1x1x32x128.size bs, ws⟩,
         ⟨Rect.unit ![slotW i, 0, chW i, 0, 0] S1x1x1x32x128.size bc, wc⟩])) where
  h_in s r' r k hs' hr := by
    refine (View.read_writes_cons_unit_of_mem _ _ _ _ _ _ (ix3 0 r k) rfl fun a => ?_).trans (hh r k)
    match a with
    | ⟨0, _⟩ => show s.val = slotW i + 0; omega
    | ⟨1, _⟩ => exact hr
    | ⟨2, _⟩ => show k.val = 0 + k.val; omega
  h_slot s r' k hs' := by
    refine (View.read_writes_cons_unit_of_not_mem _ _ _ _ _ _ rfl 0 ?_).trans (congrFun (harg11.read_unread xs0) _)
    show s.val < slotW i ∨ slotW i + 1 ≤ s.val
    omega
  h_row s r' k hr := by
    refine (View.read_writes_cons_unit_of_not_mem _ _ _ _ _ _ rfl 1 ?_).trans (congrFun (harg11.read_unread xs0) _)
    exact hr
  cos_in s q f l hs' hq := by
    refine (View.read_writes_cons_unit_of_not_mem _ _ _ _ _ _ rfl 1 (Or.inl (by show 0 < 1; omega))).trans ?_
    refine (View.read_writes_cons_unit_of_mem _ _ _ _ _ _ (ix5 0 0 0 f l) rfl fun a => ?_).trans (hc ▸ cos_at _ f l)
    match a with
    | ⟨0, _⟩ => show s.val = slotW i + 0; omega
    | ⟨1, _⟩ => rfl
    | ⟨2, _⟩ => show q.val = chW i + 0; omega
    | ⟨3, _⟩ => show f.val = 0 + f.val; omega
    | ⟨4, _⟩ => show l.val = 0 + l.val; omega
  sin_in s q f l hs' hq := by
    refine (View.read_writes_cons_unit_of_mem _ _ _ _ _ _ (ix5 0 0 0 f l) rfl fun a => ?_).trans (hs ▸ sin_at _ f l)
    match a with
    | ⟨0, _⟩ => show s.val = slotW i + 0; omega
    | ⟨1, _⟩ => rfl
    | ⟨2, _⟩ => show q.val = chW i + 0; omega
    | ⟨3, _⟩ => show f.val = 0 + f.val; omega
    | ⟨4, _⟩ => show l.val = 0 + l.val; omega
  c_slot s p q f l hs' := by
    have h0 : s.val < slotW i ∨ slotW i + 1 ≤ s.val := by omega
    exact (View.read_writes_cons_unit_of_not_mem _ _ _ _ _ _ rfl 0 h0).trans
      ((View.read_writes_cons_unit_of_not_mem _ _ _ _ _ _ rfl 0 h0).trans (congrFun (harg12.read_unread xs1) _))
  c_ch s p q f l hq := by
    have h0 : q.val < chW i ∨ chW i + 1 ≤ q.val := by omega
    exact (View.read_writes_cons_unit_of_not_mem _ _ _ _ _ _ rfl 2 h0).trans
      ((View.read_writes_cons_unit_of_not_mem _ _ _ _ _ _ rfl 2 h0).trans (congrFun (harg12.read_unread xs1) _))

section
variable (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : cond0_0 i) (hc1 : ¬cond0_1 i)
    (x0 : Vec Ideal S12 .i32) (x1 : Vec Ideal S1 .f32) (x2 : Vec Ideal S128x5120 .bf16) (x3 : Vec Ideal S1x5120 .f32) (x4 : Vec Ideal S640x5120 .bf16) (x5 : Vec Ideal S640x1 .f32) (x6 : Vec Ideal S32x128 .f32)
    (xs0 : Vec Ideal S2x1024x5120 .bf16) (xs1 : Vec Ideal S2x2x8x32x128 .f32)
  (d7 : Vec Ideal S640x1024 .bf16) (d8 : Vec Ideal S640x1024 .f32)

/-- The tables after a point before point 10. -/
theorem wroteA : Wrote i x0 x2 x3 x6 xs0
    (arg11.view.read (Elt Ideal) (arg11.view.writes (Elt Ideal) (harg11.unread xs0) (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 d7 d8 xs0 xs1).1)) xs1
    (arg12.view.read (Elt Ideal) (arg12.view.writes (Elt Ideal) (harg12.unread xs1) (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 d7 d8 xs0 xs1).2.1)) := by
  unfold kernelRun0_A
  dsimp only
  sl_unfold_words
  simp only [View.readAt_eq_ld, harg2.read_unread, harg4.read_unread, harg5.read_unread, harg8.read_unread]
  refine wrote_of i arg11 harg11 arg12 harg12 x0 x2 x3 x6 xs0 xs1 _ _ _ _ _ _ (fun r k => ?_) ?_ ?_
  · refine (congrFun (congrArg₂ (fun a b => k0_pay6 (F := Ideal) a b) (rows_ld x2 _) (gain_ld x3 _)) _).trans (pay6_at x2 x3 r k)
  · exact congrArg k0_pay5 (angV_ld i x0 x6 _ _ _)
  · exact congrArg (fun v => k0_pay4 (Idealize.ShloMosaic.cos v)) (angV_ld i x0 x6 _ _ _)

end

section
variable (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : ¬cond0_0 i) (hc1 : cond0_1 i)
    (x0 : Vec Ideal S12 .i32) (x1 : Vec Ideal S1 .f32) (x2 : Vec Ideal S128x5120 .bf16) (x3 : Vec Ideal S1x5120 .f32) (x4 : Vec Ideal S640x5120 .bf16) (x5 : Vec Ideal S640x1 .f32) (x6 : Vec Ideal S32x128 .f32)
    (xs0 : Vec Ideal S2x1024x5120 .bf16) (xs1 : Vec Ideal S2x2x8x32x128 .f32)

/-- The tables after a point from point 10 on. -/
theorem wroteB : Wrote i x0 x2 x3 x6 xs0
    (arg11.view.read (Elt Ideal) (arg11.view.writes (Elt Ideal) (harg11.unread xs0) (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)) xs1
    (arg12.view.read (Elt Ideal) (arg12.view.writes (Elt Ideal) (harg12.unread xs1) (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)) := by
  unfold kernelRun0_B
  dsimp only
  sl_unfold_words
  simp only [View.readAt_eq_ld, harg2.read_unread, harg4.read_unread, harg5.read_unread, harg8.read_unread]
  refine wrote_of i arg11 harg11 arg12 harg12 x0 x2 x3 x6 xs0 xs1 _ _ _ _ _ _ (fun r k => ?_) ?_ ?_
  · refine (congrFun (congrArg₂ (fun a b => k0_pay562 (F := Ideal) (k0_pay561 a b)) (rows_ld x2 _) (gain_ld x3 _)) _).trans (pay562_at x2 x3 r k)
  · exact congrArg k0_pay5 (angV_ld i x0 x6 _ _ _)
  · exact congrArg (fun v => k0_pay4 (Idealize.ShloMosaic.cos v)) (angV_ld i x0 x6 _ _ _)

end

end Cert.Proof.Qkv

end
-- ==== Proof.Qkv.Tile.lean ====
/-
  One tile of the projection's output over the extended reals: the rotation of a head's two halves, in the order of
  operations of the kernel, is the projection at the tile's indices.
-/
module

public import proofs.«01_k».proof.Proof.Qkv.Spec
public import proofs.«01_k».proof.Proof.Gen.QkvKernelIdeal.Skeleton
public import Idealize.ShloMosaic.Lib.Pointwise
public import Idealize.ShloMosaic.Lib.Pipeline.ValueKit.Tiles

@[expose] public section

set_option maxRecDepth 16384

noncomputable section

namespace Cert.Proof.Qkv

open Idealize.ShloMosaic Idealize.ShloMosaic.TcCoe Idealize.SL.Sem
open Cert.QkvKernelIdeal Cert.QkvKernelIdeal.Gen
open scoped BigOperators

/-- The scale of the query rows is one eighth. -/
theorem eighth : Ideal.ofBits FTy.f32 1040187392#32 = ((1 / 8 : ℝ) : EReal) := by
  simp [Ideal.ofBits, Ideal.ieee]
  rw [← EReal.coe_mul]
  norm_num

theorem eighth_nonneg : 0 ≤ Ideal.ofBits FTy.f32 1040187392#32 := by
  rw [eighth]; exact_mod_cast (by norm_num : (0 : ℝ) ≤ 1 / 8)

theorem eighth_ne_top : Ideal.ofBits FTy.f32 1040187392#32 ≠ ⊤ := by
  rw [eighth]; exact EReal.coe_ne_top _

/-- A scale in both factors of a difference of products is a scale of the difference. -/
theorem scale_sub (a b c d : EReal) :
    a * (c * Ideal.ofBits FTy.f32 1040187392#32) - b * (d * Ideal.ofBits FTy.f32 1040187392#32)
      = (a * c - b * d) * Ideal.ofBits FTy.f32 1040187392#32 := by
  rw [EReal.sub_mul_of_nonneg_of_ne_top eighth_nonneg eighth_ne_top, mul_assoc, mul_assoc]

/-- A scale in both factors of a sum of products is a scale of the sum. -/
theorem scale_add (a b c d : EReal) :
    a * (c * Ideal.ofBits FTy.f32 1040187392#32) + b * (d * Ideal.ofBits FTy.f32 1040187392#32)
      = (a * c + b * d) * Ideal.ofBits FTy.f32 1040187392#32 := by
  rw [EReal.right_distrib_of_nonneg_of_ne_top eighth_nonneg eighth_ne_top, mul_assoc, mul_assoc]

/-- The kernel's cosine operand: one on value rows, scaled on query rows. -/
abbrev cosT (a1 : BitVec 32) (v : Vec Ideal S1x1x1x32x128 .f32) : FVec Ideal S32x128 .f32 :=
  Scalar.select (Scalar.cmpi .eq a1 9#32) (broadcast S32x128 (Scalar.ofBits (F := Ideal) .f32 0x3F800000#32))
    (mulf (shapeCast S32x128 v shapeCasts_S1x1x1x32x128_S32x128) (broadcast S32x128 (k0_pay7 (F := Ideal) a1)))

/-- The kernel's sine operand: zero on value rows, scaled on query rows. -/
abbrev sinT (a1 : BitVec 32) (v : Vec Ideal S1x1x1x32x128 .f32) : FVec Ideal S32x128 .f32 :=
  Scalar.select (Scalar.cmpi .eq a1 9#32) (broadcast S32x128 (Scalar.ofBits (F := Ideal) .f32 0x00000000#32))
    (mulf (shapeCast S32x128 v shapeCasts_S1x1x1x32x128_S32x128) (broadcast S32x128 (k0_pay7 (F := Ideal) a1)))

/-- The kernel's scaled product with the bias on one tile. -/
abbrev rowT (tv : EReal) (acc : FVec Ideal S640x1024 .f32) (o l : ℕ) (h : Shape.Slices S640x1024 ![o, l] S32x128)
    (bv : Vec Ideal S32x1 .f32) : FVec Ideal S32x128 .f32 :=
  addf (mulf (extractStridedSlice S32x128 ![o, l] acc h) (broadcast (α := Ideal .f32) S32x128 tv))
    (broadcastTo S32x128 (shapeCast S32x1 bv shapeCasts_S32x1_S32x1) broadcasts_S32x1_S32x128)

/-- The select of the value rows, and of the scale. -/
theorem sel9 {α : Type} (j : ℕ) (hj : j < 10) (x y : α) :
    Scalar.select (Scalar.cmpi .eq (BitVec.ofNat 32 j) 9#32) x y = if j = 9 then x else y := by
  interval_cases j <;> rfl

theorem sel8 {α : Type} (j : ℕ) (hj : j < 10) (x y : α) :
    Scalar.select (Scalar.cmpi .slt (BitVec.ofNat 32 j) 8#32) x y = if j < 8 then x else y := by
  interval_cases j <;> rfl

theorem cosT_at (j : ℕ) (hj : j < 10) (v : Vec Ideal S1x1x1x32x128 .f32) (r : Fin 32) (k : Fin 128) :
    cosT (BitVec.ofNat 32 j) v (ix2 r k) = if j = 9 then 1 else v (ix5 0 0 0 r k) * (if j < 8 then Ideal.ofBits FTy.f32 1040187392#32 else 1) := by
  unfold cosT
  pointwise [k0_pay7]
  rw [sel9 j hj, sel8 j hj]

theorem sinT_at (j : ℕ) (hj : j < 10) (v : Vec Ideal S1x1x1x32x128 .f32) (r : Fin 32) (k : Fin 128) :
    sinT (BitVec.ofNat 32 j) v (ix2 r k) = if j = 9 then 0 else v (ix5 0 0 0 r k) * (if j < 8 then Ideal.ofBits FTy.f32 1040187392#32 else 1) := by
  unfold sinT
  pointwise [k0_pay7]
  rw [sel9 j hj, sel8 j hj]

theorem rowT_at (tv : EReal) (acc : FVec Ideal S640x1024 .f32) (o l : ℕ) (h : Shape.Slices S640x1024 ![o, l] S32x128)
    (bv : Vec Ideal S32x1 .f32) (ho : o + 32 ≤ 640) (hl : l + 128 ≤ 1024) (r : Fin 32) (k : Fin 128) :
    rowT tv acc o l h bv (ix2 r k) = acc (ix2 (⟨o + r.val, by omega⟩ : Fin 640) (⟨l + k.val, by omega⟩ : Fin 1024)) * tv + bv (ix2 r 0) := by
  unfold rowT
  pointwise []

/-- What the body of a point finds: token offset `n0`, row block `j`, the products and the tables of its slot. -/
structure Ready (A : Args) (n0 j : ℕ) (tv : EReal) (acc : FVec Ideal S640x1024 .f32) (x5 : Vec Ideal S640x1 .f32)
    (xs1 : Vec Ideal S2x2x8x32x128 .f32) (w : ℕ) : Prop where
  hj : j < 10
  hw : w < 2
  y : ∀ (o : Fin 640) (l : Fin 1024), acc (ix2 o l) * tv + x5 (ix2 o 0) = yN A (n0 + l.val) (j * 640 + o.val)
  cos : ∀ (hw : w < 2) (q : Fin 8) (f : Fin 32) (c : Fin 128),
    xs1 (ix5 ⟨w, hw⟩ 0 q f c) = Ideal.cos (angN A (n0 + (128 * q.val + c.val)) f)
  sin : ∀ (hw : w < 2) (q : Fin 8) (f : Fin 32) (c : Fin 128),
    xs1 (ix5 ⟨w, hw⟩ 1 q f c) = Ideal.sin (angN A (n0 + (128 * q.val + c.val)) f)

variable {A : Args} {n0 j : ℕ} {tv : EReal} {acc : FVec Ideal S640x1024 .f32} {x5 : Vec Ideal S640x1 .f32}
  {xs1 : Vec Ideal S2x2x8x32x128 .f32} {w : ℕ}

/-- A table's slab lies inside the tables. -/
theorem slab_inb (hw : w < 2) (p q : ℕ) (hp : p < 2) (hq : q < 8) :
    ∀ a, (![w, p, q, 0, 0] : Fin 5 → ℕ) a + (![1, 1, 1, 32, 128] : Fin 5 → ℕ) a ≤ S2x2x8x32x128.size a := fun a => by
  match a with
  | ⟨0, _⟩ => exact hw
  | ⟨1, _⟩ => exact hp
  | ⟨2, _⟩ => exact hq
  | ⟨3, _⟩ => exact (by decide : 0 + 32 ≤ 32)
  | ⟨4, _⟩ => exact (by decide : 0 + 128 ≤ 128)

/-- The projection at an index of the point's output block. -/
def goalN (A : Args) (n0 j : ℕ) (y : S640x1024.Idx) : EReal := zN A (n0 + (y 1).val) (j * 640 + (y 0).val)

theorem row_ready (R : Ready A n0 j tv acc x5 xs1 w) (o l : ℕ) (h : Shape.Slices S640x1024 ![o, l] S32x128)
    (inb : ∀ a, (![o, 0] : Fin 2 → ℕ) a + (![32, 1] : Fin 2 → ℕ) a ≤ S640x1.size a) (ho : o + 32 ≤ 640) (hl : l + 128 ≤ 1024)
    (r : Fin 32) (k : Fin 128) :
    rowT tv acc o l h (View.ld (S := S640x1) x5 (Rect.unit ![o, 0] ![32, 1] inb)) (ix2 r k) = yN A (n0 + (l + k.val)) (j * 640 + (o + r.val)) := by
  rw [rowT_at _ _ _ _ _ _ ho hl]
  rw [← R.y ⟨o + r.val, by omega⟩ ⟨l + k.val, by omega⟩]
  congr 1
  refine View.ld_unit_apply_of _ _ _ _ _ _ fun a => ?_
  match a with
  | ⟨0, _⟩ => rfl
  | ⟨1, _⟩ => rfl

theorem cos_ready (R : Ready A n0 j tv acc x5 xs1 w) (q : ℕ) (hq : q < 8)
    (inb : ∀ a, (![w, 0, q, 0, 0] : Fin 5 → ℕ) a + (![1, 1, 1, 32, 128] : Fin 5 → ℕ) a ≤ S2x2x8x32x128.size a) (r : Fin 32) (k : Fin 128) :
    View.ld (S := S2x2x8x32x128) xs1 (Rect.unit ![w, 0, q, 0, 0] ![1, 1, 1, 32, 128] inb) (ix5 0 0 0 r k)
      = Ideal.cos (angN A (n0 + (128 * q + k.val)) r) := by
  have hw : w < 2 := by have := inb 0; exact this
  rw [← R.cos hw ⟨q, hq⟩ r k]
  refine View.ld_unit_apply_of _ _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem sin_ready (R : Ready A n0 j tv acc x5 xs1 w) (q : ℕ) (hq : q < 8)
    (inb : ∀ a, (![w, 1, q, 0, 0] : Fin 5 → ℕ) a + (![1, 1, 1, 32, 128] : Fin 5 → ℕ) a ≤ S2x2x8x32x128.size a) (r : Fin 32) (k : Fin 128) :
    View.ld (S := S2x2x8x32x128) xs1 (Rect.unit ![w, 1, q, 0, 0] ![1, 1, 1, 32, 128] inb) (ix5 0 0 0 r k)
      = Ideal.sin (angN A (n0 + (128 * q + k.val)) r) := by
  have hw : w < 2 := by have := inb 0; exact this
  rw [← R.sin hw ⟨q, hq⟩ r k]
  refine View.ld_unit_apply_of _ _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

/-- The kernel's arrangement of the rotation on a first half. -/
theorem alg_lo (A : Args) (n j o : ℕ) (hj : j < 10) (hlo : o % 64 < 32) (ho : o < 640) (f : Fin 32) (hf : f.val = o % 32) :
    yN A n (j * 640 + o) * (if j = 9 then 1 else Ideal.cos (angN A n f) * (if j < 8 then Ideal.ofBits FTy.f32 1040187392#32 else 1))
      - yN A n (j * 640 + (o + 32)) * (if j = 9 then 0 else Ideal.sin (angN A n f) * (if j < 8 then Ideal.ofBits FTy.f32 1040187392#32 else 1))
      = zN A n (j * 640 + o) := by
  have hfN : fN (j * 640 + o) = f := Fin.ext (by show (j * 640 + o) % 32 = f.val; omega)
  unfold zN rotN
  rw [if_pos (show (j * 640 + o) % 64 < 32 by omega), hfN, ← Nat.add_assoc]
  by_cases h9 : j = 9
  · rw [if_pos h9, if_pos h9, if_neg (by omega), if_neg (by omega), mul_one, mul_zero, sub_zero]
  · rw [if_neg h9, if_neg h9]
    by_cases h8 : j < 8
    · rw [if_pos h8, if_pos (by omega), scale_sub]
    · rw [if_neg h8, if_neg (by omega), if_pos (by omega), mul_one, mul_one]

/-- The kernel's arrangement of the rotation on a second half. -/
theorem alg_hi (A : Args) (n j o : ℕ) (hj : j < 10) (hhi : ¬ o % 64 < 32) (ho : o < 640) (f : Fin 32) (hf : f.val = o % 32) :
    yN A n (j * 640 + o) * (if j = 9 then 1 else Ideal.cos (angN A n f) * (if j < 8 then Ideal.ofBits FTy.f32 1040187392#32 else 1))
      + yN A n (j * 640 + (o - 32)) * (if j = 9 then 0 else Ideal.sin (angN A n f) * (if j < 8 then Ideal.ofBits FTy.f32 1040187392#32 else 1))
      = zN A n (j * 640 + o) := by
  have hfN : fN (j * 640 + o) = f := Fin.ext (by show (j * 640 + o) % 32 = f.val; omega)
  unfold zN rotN
  rw [if_neg (show ¬ (j * 640 + o) % 64 < 32 by omega), hfN, show j * 640 + (o - 32) = j * 640 + o - 32 by omega]
  by_cases h9 : j = 9
  · rw [if_pos h9, if_pos h9, if_neg (by omega), if_neg (by omega), mul_one, mul_zero, add_zero]
  · rw [if_neg h9, if_neg h9]
    by_cases h8 : j < 8
    · rw [if_pos h8, if_pos (by omega), scale_add]
    · rw [if_neg h8, if_neg (by omega), if_pos (by omega), mul_one, mul_one]

theorem emb_val (o l : ℕ) (inb : ∀ a, (![o, l] : Fin 2 → ℕ) a + (![32, 128] : Fin 2 → ℕ) a ≤ S640x1024.size a)
    (r : Fin 32) (k : Fin 128) :
    goalN A n0 j ((Rect.unit (s := S640x1024) ![o, l] ![32, 128] inb).emb (ix2 r k)) = zN A (n0 + (l + k.val)) (j * 640 + (o + r.val)) := by
  unfold goalN
  rw [show (((Rect.unit (s := S640x1024) ![o, l] ![32, 128] inb).emb (ix2 r k)) 0).val = o + r.val from
      (show o + 1 * r.val = o + r.val by omega),
    show (((Rect.unit (s := S640x1024) ![o, l] ![32, 128] inb).emb (ix2 r k)) 1).val = l + k.val from
      (show l + 1 * k.val = l + k.val by omega)]

/-- A tile of a first half. -/
theorem tile_lo (R : Ready A n0 j tv acc x5 xs1 w) (o1 o2 l q : ℕ) (h1 : Shape.Slices S640x1024 ![o1, l] S32x128)
    (h2 : Shape.Slices S640x1024 ![o2, l] S32x128)
    (i1 : ∀ a, (![o1, 0] : Fin 2 → ℕ) a + (![32, 1] : Fin 2 → ℕ) a ≤ S640x1.size a)
    (i2 : ∀ a, (![o2, 0] : Fin 2 → ℕ) a + (![32, 1] : Fin 2 → ℕ) a ≤ S640x1.size a)
    (ic : ∀ a, (![w, 0, q, 0, 0] : Fin 5 → ℕ) a + (![1, 1, 1, 32, 128] : Fin 5 → ℕ) a ≤ S2x2x8x32x128.size a)
    (is : ∀ a, (![w, 1, q, 0, 0] : Fin 5 → ℕ) a + (![1, 1, 1, 32, 128] : Fin 5 → ℕ) a ≤ S2x2x8x32x128.size a)
    (ir : ∀ a, (![o1, l] : Fin 2 → ℕ) a + (![32, 128] : Fin 2 → ℕ) a ≤ S640x1024.size a)
    (hside : o2 = o1 + 32 ∧ o1 % 64 = 0 ∧ o1 < 640 ∧ l = 128 * q ∧ q < 8) (x : S32x128.Idx) :
    (subf (mulf (rowT tv acc o1 l h1 (View.ld (S := S640x1) x5 (Rect.unit ![o1, 0] ![32, 1] i1)))
        (cosT (BitVec.ofNat 32 j) (View.ld (S := S2x2x8x32x128) xs1 (Rect.unit ![w, 0, q, 0, 0] ![1, 1, 1, 32, 128] ic))))
      (mulf (rowT tv acc o2 l h2 (View.ld (S := S640x1) x5 (Rect.unit ![o2, 0] ![32, 1] i2)))
        (sinT (BitVec.ofNat 32 j) (View.ld (S := S2x2x8x32x128) xs1 (Rect.unit ![w, 1, q, 0, 0] ![1, 1, 1, 32, 128] is))))
      : FVec Ideal S32x128 .f32) x = goalN A n0 j ((Rect.unit (s := S640x1024) ![o1, l] ![32, 128] ir).emb x) := by
  obtain ⟨r, k, rfl⟩ : ∃ (r : Fin 32) (k : Fin 128), x = ix2 r k := ⟨x 0, x 1, eq_ix2 x⟩
  obtain ⟨rfl, hm, hb, rfl, hq⟩ := hside
  rw [emb_val, ← alg_lo A _ j (o1 + r.val) R.hj (by omega) (by omega) r (by omega)]
  show _ * _ - _ * _ = _
  rw [row_ready R _ _ _ _ (by omega) (by omega), row_ready R _ _ _ _ (by omega) (by omega), cosT_at _ R.hj, sinT_at _ R.hj,
    cos_ready R q hq, sin_ready R q hq, show o1 + 32 + r.val = o1 + r.val + 32 by omega]

/-- A tile of a second half. -/
theorem tile_hi (R : Ready A n0 j tv acc x5 xs1 w) (o1 o2 l q : ℕ) (h1 : Shape.Slices S640x1024 ![o1, l] S32x128)
    (h2 : Shape.Slices S640x1024 ![o2, l] S32x128)
    (i1 : ∀ a, (![o1, 0] : Fin 2 → ℕ) a + (![32, 1] : Fin 2 → ℕ) a ≤ S640x1.size a)
    (i2 : ∀ a, (![o2, 0] : Fin 2 → ℕ) a + (![32, 1] : Fin 2 → ℕ) a ≤ S640x1.size a)
    (ic : ∀ a, (![w, 0, q, 0, 0] : Fin 5 → ℕ) a + (![1, 1, 1, 32, 128] : Fin 5 → ℕ) a ≤ S2x2x8x32x128.size a)
    (is : ∀ a, (![w, 1, q, 0, 0] : Fin 5 → ℕ) a + (![1, 1, 1, 32, 128] : Fin 5 → ℕ) a ≤ S2x2x8x32x128.size a)
    (ir : ∀ a, (![o2, l] : Fin 2 → ℕ) a + (![32, 128] : Fin 2 → ℕ) a ≤ S640x1024.size a)
    (hside : o2 = o1 + 32 ∧ o1 % 64 = 0 ∧ o1 < 640 ∧ l = 128 * q ∧ q < 8) (x : S32x128.Idx) :
    (addf (mulf (rowT tv acc o2 l h2 (View.ld (S := S640x1) x5 (Rect.unit ![o2, 0] ![32, 1] i2)))
        (cosT (BitVec.ofNat 32 j) (View.ld (S := S2x2x8x32x128) xs1 (Rect.unit ![w, 0, q, 0, 0] ![1, 1, 1, 32, 128] ic))))
      (mulf (rowT tv acc o1 l h1 (View.ld (S := S640x1) x5 (Rect.unit ![o1, 0] ![32, 1] i1)))
        (sinT (BitVec.ofNat 32 j) (View.ld (S := S2x2x8x32x128) xs1 (Rect.unit ![w, 1, q, 0, 0] ![1, 1, 1, 32, 128] is))))
      : FVec Ideal S32x128 .f32) x = goalN A n0 j ((Rect.unit (s := S640x1024) ![o2, l] ![32, 128] ir).emb x) := by
  obtain ⟨r, k, rfl⟩ : ∃ (r : Fin 32) (k : Fin 128), x = ix2 r k := ⟨x 0, x 1, eq_ix2 x⟩
  obtain ⟨rfl, hm, hb, rfl, hq⟩ := hside
  rw [emb_val, ← alg_hi A _ j (o1 + 32 + r.val) R.hj (by omega) (by omega) r (by omega)]
  show _ * _ + _ * _ = _
  rw [row_ready R _ _ _ _ (by omega) (by omega), row_ready R _ _ _ _ (by omega) (by omega), cosT_at _ R.hj, sinT_at _ R.hj,
    cos_ready R q hq, sin_ready R q hq, show o1 + 32 + r.val - 32 = o1 + r.val by omega]

/-- The same tile narrowed, which over the extended reals changes nothing. -/
theorem tile_lo' (R : Ready A n0 j tv acc x5 xs1 w) (o1 o2 l q : ℕ) (h1 : Shape.Slices S640x1024 ![o1, l] S32x128)
    (h2 : Shape.Slices S640x1024 ![o2, l] S32x128)
    (i1 : ∀ a, (![o1, 0] : Fin 2 → ℕ) a + (![32, 1] : Fin 2 → ℕ) a ≤ S640x1.size a)
    (i2 : ∀ a, (![o2, 0] : Fin 2 → ℕ) a + (![32, 1] : Fin 2 → ℕ) a ≤ S640x1.size a)
    (ic : ∀ a, (![w, 0, q, 0, 0] : Fin 5 → ℕ) a + (![1, 1, 1, 32, 128] : Fin 5 → ℕ) a ≤ S2x2x8x32x128.size a)
    (is : ∀ a, (![w, 1, q, 0, 0] : Fin 5 → ℕ) a + (![1, 1, 1, 32, 128] : Fin 5 → ℕ) a ≤ S2x2x8x32x128.size a)
    (ir : ∀ a, (![o1, l] : Fin 2 → ℕ) a + (![32, 128] : Fin 2 → ℕ) a ≤ S640x1024.size a)
    (hside : o2 = o1 + 32 ∧ o1 % 64 = 0 ∧ o1 < 640 ∧ l = 128 * q ∧ q < 8) (x : S32x128.Idx) :
    (truncf .bf16 (subf (mulf (rowT tv acc o1 l h1 (View.ld (S := S640x1) x5 (Rect.unit ![o1, 0] ![32, 1] i1)))
        (cosT (BitVec.ofNat 32 j) (View.ld (S := S2x2x8x32x128) xs1 (Rect.unit ![w, 0, q, 0, 0] ![1, 1, 1, 32, 128] ic))))
      (mulf (rowT tv acc o2 l h2 (View.ld (S := S640x1) x5 (Rect.unit ![o2, 0] ![32, 1] i2)))
        (sinT (BitVec.ofNat 32 j) (View.ld (S := S2x2x8x32x128) xs1 (Rect.unit ![w, 1, q, 0, 0] ![1, 1, 1, 32, 128] is))))
      : FVec Ideal S32x128 .f32) bitsLt_bf16_f32 : FVec Ideal S32x128 .bf16) x = goalN A n0 j ((Rect.unit (s := S640x1024) ![o1, l] ![32, 128] ir).emb x) :=
  tile_lo R o1 o2 l q h1 h2 i1 i2 ic is ir hside x

/-- The same tile narrowed, which over the extended reals changes nothing. -/
theorem tile_hi' (R : Ready A n0 j tv acc x5 xs1 w) (o1 o2 l q : ℕ) (h1 : Shape.Slices S640x1024 ![o1, l] S32x128)
    (h2 : Shape.Slices S640x1024 ![o2, l] S32x128)
    (i1 : ∀ a, (![o1, 0] : Fin 2 → ℕ) a + (![32, 1] : Fin 2 → ℕ) a ≤ S640x1.size a)
    (i2 : ∀ a, (![o2, 0] : Fin 2 → ℕ) a + (![32, 1] : Fin 2 → ℕ) a ≤ S640x1.size a)
    (ic : ∀ a, (![w, 0, q, 0, 0] : Fin 5 → ℕ) a + (![1, 1, 1, 32, 128] : Fin 5 → ℕ) a ≤ S2x2x8x32x128.size a)
    (is : ∀ a, (![w, 1, q, 0, 0] : Fin 5 → ℕ) a + (![1, 1, 1, 32, 128] : Fin 5 → ℕ) a ≤ S2x2x8x32x128.size a)
    (ir : ∀ a, (![o2, l] : Fin 2 → ℕ) a + (![32, 128] : Fin 2 → ℕ) a ≤ S640x1024.size a)
    (hside : o2 = o1 + 32 ∧ o1 % 64 = 0 ∧ o1 < 640 ∧ l = 128 * q ∧ q < 8) (x : S32x128.Idx) :
    (truncf .bf16 (addf (mulf (rowT tv acc o2 l h2 (View.ld (S := S640x1) x5 (Rect.unit ![o2, 0] ![32, 1] i2)))
        (cosT (BitVec.ofNat 32 j) (View.ld (S := S2x2x8x32x128) xs1 (Rect.unit ![w, 0, q, 0, 0] ![1, 1, 1, 32, 128] ic))))
      (mulf (rowT tv acc o1 l h1 (View.ld (S := S640x1) x5 (Rect.unit ![o1, 0] ![32, 1] i1)))
        (sinT (BitVec.ofNat 32 j) (View.ld (S := S2x2x8x32x128) xs1 (Rect.unit ![w, 1, q, 0, 0] ![1, 1, 1, 32, 128] is))))
      : FVec Ideal S32x128 .f32) bitsLt_bf16_f32 : FVec Ideal S32x128 .bf16) x = goalN A n0 j ((Rect.unit (s := S640x1024) ![o2, l] ![32, 128] ir).emb x) :=
  tile_hi R o1 o2 l q h1 h2 i1 i2 ic is ir hside x

end Cert.Proof.Qkv

end
-- ==== Proof.Qkv.Pieces.lean ====
/-
  The tiles the projection's body stores from point 10 on, over the extended reals: each is the projection at its
  indices.
-/
module

public import proofs.«01_k».proof.Proof.Qkv.RunB
public import proofs.«01_k».proof.Proof.Qkv.Tile
import all proofs.«01_k».proof.Proof.Qkv.RunB

@[expose] public section

set_option maxRecDepth 16384

noncomputable section

namespace Cert.Proof.Qkv

open Idealize.ShloMosaic Idealize.ShloMosaic.TcCoe Idealize.ShloMosaic.Tactic Idealize.SL.Sem
open Cert.QkvKernelIdeal Cert.QkvKernelIdeal.Gen

/-- The slot of the tables the products of a point read. -/
abbrev curW (i : grid0.Coords) : ℕ := (Scalar.indexCast (Scalar.subi 1#32 (Scalar.remsi (BitVec.ofNat 32 (i 0).val) 2#32))).toNat

variable (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : ¬cond0_0 i) (hc1 : cond0_1 i)
    (x0 : Vec Ideal S12 .i32) (x1 : Vec Ideal S1 .f32) (x2 : Vec Ideal S128x5120 .bf16) (x3 : Vec Ideal S1x5120 .f32) (x4 : Vec Ideal S640x5120 .bf16) (x5 : Vec Ideal S640x1 .f32) (x6 : Vec Ideal S32x128 .f32)
    (xs0 : Vec Ideal S2x1024x5120 .bf16) (xs1 : Vec Ideal S2x2x8x32x128 .f32)
  {A : Args} {n0 : ℕ} {tv : EReal} {acc : FVec Ideal S640x1024 .f32}

/-- The products and the scale as the body loads them. -/
structure Loaded (i : grid0.Coords) (x1 : Vec Ideal S1 .f32) (x4 : Vec Ideal S640x5120 .bf16) (xs0 : Vec Ideal S2x1024x5120 .bf16)
    (tv : EReal) (acc : FVec Ideal S640x1024 .f32) : Prop where
  tv : ∀ h, tv = View.ld (S := S1) x1 (Rect.unit ![0] S1.size inb_S1_S1_0) (Shape.Idx.first h)
  acc : ∀ b, acc = k0_pay8 (View.ld (S := S640x5120) x4 (Rect.unit ![0, 0] S640x5120.size inb_S640x5120_S640x5120_0_0))
    (View.ld (S := S2x1024x5120) xs0 (Rect.unit ![curW i, 0, 0] S1x1024x5120.size b))

set_option maxHeartbeats 8000000 in
/-- The tiles of the key and value rows, kept at full precision. -/
theorem pieces8 (R : Ready A n0 (i 1).val tv acc x5 xs1 (curW i)) (L : Loaded i x1 x4 xs0 tv acc) :
    ∀ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, ∀ x, p.2 x = goalN A n0 (i 1).val (p.1.emb x) := by
  have b0 : ∀ a, (![curW i, 0, 0] : Fin 3 → ℕ) a + S1x1024x5120.size a ≤ S2x1024x5120.size a := k0_off5_inb i hc1
  obtain rfl := L.tv (by decide)
  obtain rfl := L.acc b0
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread]
  repeat
    refine List.forall_mem_cons.mpr ⟨fun x => tile_hi R _ _ _ _ (by decide) (by decide) (by decide) (by decide)
      (slab_inb R.hw _ _ (by decide) (by decide)) (slab_inb R.hw _ _ (by decide) (by decide)) (by decide) (by decide) x, ?_⟩
    refine List.forall_mem_cons.mpr ⟨fun x => tile_lo R _ _ _ _ (by decide) (by decide) (by decide) (by decide)
      (slab_inb R.hw _ _ (by decide) (by decide)) (slab_inb R.hw _ _ (by decide) (by decide)) (by decide) (by decide) x, ?_⟩
  exact List.forall_mem_nil _

set_option maxHeartbeats 8000000 in
/-- The tiles of all rows. -/
theorem pieces7 (R : Ready A n0 (i 1).val tv acc x5 xs1 (curW i)) (L : Loaded i x1 x4 xs0 tv acc) :
    ∀ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, ∀ x, p.2 x = goalN A n0 (i 1).val (p.1.emb x) := by
  have b0 : ∀ a, (![curW i, 0, 0] : Fin 3 → ℕ) a + S1x1024x5120.size a ≤ S2x1024x5120.size a := k0_off5_inb i hc1
  obtain rfl := L.tv (by decide)
  obtain rfl := L.acc b0
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread]
  repeat
    refine List.forall_mem_cons.mpr ⟨fun x => tile_hi' R _ _ _ _ (by decide) (by decide) (by decide) (by decide)
      (slab_inb R.hw _ _ (by decide) (by decide)) (slab_inb R.hw _ _ (by decide) (by decide)) (by decide) (by decide) x, ?_⟩
    refine List.forall_mem_cons.mpr ⟨fun x => tile_lo' R _ _ _ _ (by decide) (by decide) (by decide) (by decide)
      (slab_inb R.hw _ _ (by decide) (by decide)) (slab_inb R.hw _ _ (by decide) (by decide)) (by decide) (by decide) x, ?_⟩
  exact List.forall_mem_nil _

end Cert.Proof.Qkv

end
-- ==== Proof.Qkv.Invariant.lean ====
/-
  What the two tables of the projection's kernel hold from point to point: the slot of the token block before, complete, and
  the chunks of the current block's slot that have been written.
-/
module

public import proofs.«01_k».proof.Proof.Qkv.Blocks
public import proofs.«01_k».proof.Proof.Qkv.Tables
public import proofs.«01_k».proof.Proof.Qkv.Pieces
import Idealize.ShloMosaic.Lib.Tactic

@[expose] public section

set_option maxRecDepth 16384

noncomputable section

namespace Cert.Proof.Qkv

open Idealize.ShloMosaic Idealize.ShloMosaic.TcCoe Idealize.ShloMosaic.Tactic Idealize.SL.Sem
open Cert.QkvKernelIdeal Cert.QkvKernelIdeal.Gen
open scoped BigOperators

/-! ## The words of a point -/

theorem slot_eq : ∀ t : Fin cfg0.N, slotW (grid0.coords t) = t.val / 10 % 2 :=
  (by decide +kernel : ∀ t : Fin grid0.N, slotW (grid0.coords t) = t.val / 10 % 2)
theorem ch_eq : ∀ t : Fin cfg0.N, chW (grid0.coords t) = t.val % 10 % 8 :=
  (by decide +kernel : ∀ t : Fin grid0.N, chW (grid0.coords t) = t.val % 10 % 8)
theorem row_eq : ∀ t : Fin cfg0.N, rowW (grid0.coords t) = 128 * (t.val % 10 % 8) :=
  (by decide +kernel : ∀ t : Fin grid0.N, rowW (grid0.coords t) = 128 * (t.val % 10 % 8))
theorem cur_eq : ∀ t : Fin cfg0.N, curW (grid0.coords t) = (t.val / 10 + 1) % 2 :=
  (by decide +kernel : ∀ t : Fin grid0.N, curW (grid0.coords t) = (t.val / 10 + 1) % 2)
theorem bat_eq : ∀ t : Fin cfg0.N, batW (grid0.coords t) = (min (t.val / 10) 14 * 8 + t.val % 10 % 8) / 10 :=
  (by decide +kernel : ∀ t : Fin grid0.N, batW (grid0.coords t) = (min (t.val / 10) 14 * 8 + t.val % 10 % 8) / 10)
theorem off_eq : ∀ t : Fin cfg0.N,
    Scalar.muli (Scalar.subi (blkV (grid0.coords t)) (Scalar.muli (batV (grid0.coords t)) 10#32)) 128#32
      = BitVec.ofNat 32 ((min (t.val / 10) 14 * 8 + t.val % 10 % 8) % 10 * 128) :=
  (by decide +kernel : ∀ t : Fin grid0.N,
    Scalar.muli (Scalar.subi (blkV (grid0.coords t)) (Scalar.muli (batV (grid0.coords t)) 10#32)) 128#32
      = BitVec.ofNat 32 ((min (t.val / 10) 14 * 8 + t.val % 10 % 8) % 10 * 128))
theorem col_eq (t : Fin cfg0.N) : (grid0.coords t 1).val = t.val % 10 := by
  have h : (grid0.coords t 1).val = t.val / 1 % 10 := Pipeline.Grid.coords_val t 1 (by decide) rfl
  omega

theorem ang_at (i : grid0.Coords) (x0 : Vec Ideal S12 .i32) (x6 : Vec Ideal S32x128 .f32) (f : Fin 32) (l : Fin 128) :
    angV i x0 x6 (ix2 f l) = FloatOps.sitofp (F := Ideal) FTy.f32
      (IntOp.addi (Scalar.addi (x0 (ix1 (⟨batW i % 12, Nat.mod_lt _ (by decide)⟩ : Fin 12)))
        (Scalar.muli (Scalar.subi (blkV i) (Scalar.muli (batV i) 10#32)) 128#32)) (BitVec.ofNat 32 l.val)) * x6 (ix2 f l) := by
  unfold angV
  pointwise [k0_pay563]

variable (m : (ℓ : Loc nD τ sig) → Buf (Elt Ideal) ℓ) (c : Dev nD)

/-- The first token of the block a point reads its chunk from. -/
abbrev baseN (n : ℕ) : ℕ := min (n / 10) 14 * 1024

/-- A point's normalised rows, over the arguments. -/
theorem nrm_eq (t : Fin cfg0.N) (r : Fin 128) (k : Fin 5120) :
    nrmV (iblk m c 2 t : Vec Ideal S128x5120 .bf16) (iblk m c 3 t : Vec Ideal S1x5120 .f32) r k
      = hN (kArgs m c) (baseN t.val + (128 * (t.val % 10 % 8) + r.val)) k := by
  unfold nrmV hN
  simp only [blk2 m c t, blk3 m c t]

/-- A point's angles, over the arguments. -/
theorem ang_eq (t : Fin cfg0.N) (f : Fin 32) (l : Fin 128) :
    angV (grid0.coords t) (iblk m c 0 t : Vec Ideal S12 .i32) (iblk m c 6 t : Vec Ideal S32x128 .f32) (ix2 f l)
      = angN (kArgs m c) (baseN t.val + (128 * (t.val % 10 % 8) + l.val)) f := by
  have ht := t_lt t
  rw [ang_at, blk0 m c t, blk6 m c t, off_eq]
  unfold angN
  have hb : (⟨batW (grid0.coords t) % 12, Nat.mod_lt _ (by decide)⟩ : Fin 12)
      = ⟨(baseN t.val + (128 * (t.val % 10 % 8) + l.val)) / 1280 % 12, Nat.mod_lt _ (by decide)⟩ :=
    Fin.ext (by
      show batW (grid0.coords t) % 12 = (baseN t.val + (128 * (t.val % 10 % 8) + l.val)) / 1280 % 12
      rw [bat_eq]
      unfold baseN
      omega)
  have hw : ∀ v : BitVec 32, IntOp.addi (Scalar.addi v (BitVec.ofNat 32 ((min (t.val / 10) 14 * 8 + t.val % 10 % 8) % 10 * 128)))
      (BitVec.ofNat 32 l.val) = IntOp.addi v (BitVec.ofNat 32 ((baseN t.val + (128 * (t.val % 10 % 8) + l.val)) % 1280)) := by
    intro v
    have e : (baseN t.val + (128 * (t.val % 10 % 8) + l.val)) % 1280
        = (min (t.val / 10) 14 * 8 + t.val % 10 % 8) % 10 * 128 + l.val := by unfold baseN; omega
    rw [e, BitVec.ofNat_add]
    exact BitVec.add_assoc _ _ _
  rw [hb, hw]

/-! ## The tables' contents -/

/-- What the tables hold before point `n`. -/
structure Inv (A : Args) (n : ℕ) (hs : Vec Ideal S2x1024x5120 .bf16) (cs : Vec Ideal S2x2x8x32x128 .f32) : Prop where
  h_prev : 10 ≤ n → ∀ (s : Fin 2) (r : Fin 1024) (k : Fin 5120), s.val = (n / 10 + 1) % 2 →
    hs (ix3 s r k) = hN A (baseN (n - 10) + r.val) k
  h_cur : ∀ (s : Fin 2) (r : Fin 1024) (k : Fin 5120), s.val = n / 10 % 2 → r.val < 128 * (n % 10) →
    hs (ix3 s r k) = hN A (baseN n + r.val) k
  cos_prev : 10 ≤ n → ∀ (s : Fin 2) (q : Fin 8) (f : Fin 32) (l : Fin 128), s.val = (n / 10 + 1) % 2 →
    cs (ix5 s 0 q f l) = Ideal.cos (angN A (baseN (n - 10) + (128 * q.val + l.val)) f)
  cos_cur : ∀ (s : Fin 2) (q : Fin 8) (f : Fin 32) (l : Fin 128), s.val = n / 10 % 2 → q.val < n % 10 →
    cs (ix5 s 0 q f l) = Ideal.cos (angN A (baseN n + (128 * q.val + l.val)) f)
  sin_prev : 10 ≤ n → ∀ (s : Fin 2) (q : Fin 8) (f : Fin 32) (l : Fin 128), s.val = (n / 10 + 1) % 2 →
    cs (ix5 s 1 q f l) = Ideal.sin (angN A (baseN (n - 10) + (128 * q.val + l.val)) f)
  sin_cur : ∀ (s : Fin 2) (q : Fin 8) (f : Fin 32) (l : Fin 128), s.val = n / 10 % 2 → q.val < n % 10 →
    cs (ix5 s 1 q f l) = Ideal.sin (angN A (baseN n + (128 * q.val + l.val)) f)

/-- Before the first point nothing is known. -/
theorem inv_zero (A : Args) (hs cs) : Inv A 0 hs cs where
  h_prev h := absurd h (by decide)
  h_cur s r k _ h := absurd h (by omega)
  cos_prev h := absurd h (by decide)
  cos_cur s q f l _ h := absurd h (by omega)
  sin_prev h := absurd h (by decide)
  sin_cur s q f l _ h := absurd h (by omega)

/-- What is known of one slot: chunk `q` of it, written from token `b` on, for the chunks below `e`. -/
structure Slot (A : Args) (s : Fin 2) (b e : ℕ) (hs : Vec Ideal S2x1024x5120 .bf16) (cs : Vec Ideal S2x2x8x32x128 .f32) : Prop where
  h : ∀ (r : Fin 1024) (k : Fin 5120), r.val < 128 * e → hs (ix3 s r k) = hN A (b + r.val) k
  cos : ∀ (q : Fin 8) (f : Fin 32) (l : Fin 128), q.val < e → cs (ix5 s 0 q f l) = Ideal.cos (angN A (b + (128 * q.val + l.val)) f)
  sin : ∀ (q : Fin 8) (f : Fin 32) (l : Fin 128), q.val < e → cs (ix5 s 1 q f l) = Ideal.sin (angN A (b + (128 * q.val + l.val)) f)

variable {m c} {hs0 hs : Vec Ideal S2x1024x5120 .bf16} {cs0 cs : Vec Ideal S2x2x8x32x128 .f32}

/-- The slot a point writes knows one chunk more after it. -/
theorem slot_step (t : Fin cfg0.N)
    (W : Wrote (grid0.coords t) (iblk m c 0 t) (iblk m c 2 t) (iblk m c 3 t) (iblk m c 6 t) hs0 hs cs0 cs)
    (s : Fin 2) (hs' : s.val = t.val / 10 % 2) (S : Slot (kArgs m c) s (baseN t.val) (t.val % 10) hs0 cs0) :
    Slot (kArgs m c) s (baseN t.val) (t.val % 10 + 1) hs cs where
  h r k hr := by
    have ht := t_lt t
    have hsl : s.val = slotW (grid0.coords t) := by rw [slot_eq]; exact hs'
    have hrow := row_eq t
    have hr' := r.isLt
    by_cases hin : 128 * (t.val % 10 % 8) ≤ r.val ∧ r.val < 128 * (t.val % 10 % 8) + 128
    · have e : r.val = rowW (grid0.coords t) + (⟨r.val - 128 * (t.val % 10 % 8), by omega⟩ : Fin 128).val := by
        show r.val = rowW (grid0.coords t) + (r.val - 128 * (t.val % 10 % 8))
        omega
      rw [W.h_in s r _ k hsl e, nrm_eq]
      refine congrArg (fun n => hN (kArgs m c) n k) ?_
      show baseN t.val + (128 * (t.val % 10 % 8) + (r.val - 128 * (t.val % 10 % 8))) = _
      omega
    · rw [W.h_row s r k (by omega)]
      exact S.h r k (by omega)
  cos q f l hq := by
    have ht := t_lt t
    have hsl : s.val = slotW (grid0.coords t) := by rw [slot_eq]; exact hs'
    have hch := ch_eq t
    have hq' := q.isLt
    by_cases hin : q.val = t.val % 10 % 8
    · rw [W.cos_in s q f l hsl (by omega), ang_eq, hin]
    · rw [W.c_ch s 0 q f l (by omega)]
      exact S.cos q f l (by omega)
  sin q f l hq := by
    have ht := t_lt t
    have hsl : s.val = slotW (grid0.coords t) := by rw [slot_eq]; exact hs'
    have hch := ch_eq t
    have hq' := q.isLt
    by_cases hin : q.val = t.val % 10 % 8
    · rw [W.sin_in s q f l hsl (by omega), ang_eq, hin]
    · rw [W.c_ch s 1 q f l (by omega)]
      exact S.sin q f l (by omega)

/-- The other slot is as it was. -/
theorem slot_keep (t : Fin cfg0.N)
    (W : Wrote (grid0.coords t) (iblk m c 0 t) (iblk m c 2 t) (iblk m c 3 t) (iblk m c 6 t) hs0 hs cs0 cs)
    (s : Fin 2) (hs' : s.val ≠ t.val / 10 % 2) {b e : ℕ} (S : Slot (kArgs m c) s b e hs0 cs0) :
    Slot (kArgs m c) s b e hs cs := by
  have hsl : s.val ≠ slotW (grid0.coords t) := by rw [slot_eq]; exact hs'
  exact ⟨fun r k hr => (W.h_slot s r k hsl).trans (S.h r k hr), fun q f l hq => (W.c_slot s 0 q f l hsl).trans (S.cos q f l hq),
    fun q f l hq => (W.c_slot s 1 q f l hsl).trans (S.sin q f l hq)⟩

theorem Inv.cur {A : Args} {n : ℕ} (I : Inv A n hs cs) (s : Fin 2) (h : s.val = n / 10 % 2) :
    Slot A s (baseN n) (n % 10) hs cs :=
  ⟨fun r k hr => I.h_cur s r k h hr, fun q f l hq => I.cos_cur s q f l h hq, fun q f l hq => I.sin_cur s q f l h hq⟩

theorem Inv.prev {A : Args} {n : ℕ} (I : Inv A n hs cs) (h10 : 10 ≤ n) (s : Fin 2) (h : s.val = (n / 10 + 1) % 2) :
    Slot A s (baseN (n - 10)) 8 hs cs :=
  ⟨fun r k _ => I.h_prev h10 s r k h, fun q f l _ => I.cos_prev h10 s q f l h, fun q f l _ => I.sin_prev h10 s q f l h⟩

theorem inv_of {A : Args} {n : ℕ} (hp : 10 ≤ n → ∀ s : Fin 2, s.val = (n / 10 + 1) % 2 → Slot A s (baseN (n - 10)) 8 hs cs)
    (hc : ∀ s : Fin 2, s.val = n / 10 % 2 → Slot A s (baseN n) (n % 10) hs cs) : Inv A n hs cs where
  h_prev h s r k e := (hp h s e).h r k (by have := r.isLt; omega)
  h_cur s r k e hr := (hc s e).h r k hr
  cos_prev h s q f l e := (hp h s e).cos q f l q.isLt
  cos_cur s q f l e hq := (hc s e).cos q f l hq
  sin_prev h s q f l e := (hp h s e).sin q f l q.isLt
  sin_cur s q f l e hq := (hc s e).sin q f l hq

/-- A point takes the contents from before it to after it. -/
theorem inv_step (t : Fin cfg0.N)
    (W : Wrote (grid0.coords t) (iblk m c 0 t) (iblk m c 2 t) (iblk m c 3 t) (iblk m c 6 t) hs0 hs cs0 cs)
    (I : Inv (kArgs m c) t.val hs0 cs0) : Inv (kArgs m c) (t.val + 1) hs cs := by
  have ht := t_lt t
  by_cases hl : t.val % 10 = 9
  · refine inv_of (fun _ s hs' => ?_) (fun s hs' => ?_)
    · have S := slot_step t W s (by omega) (I.cur s (by omega))
      have eb : baseN (t.val + 1 - 10) = baseN t.val := by unfold baseN; omega
      rw [eb]
      exact ⟨fun r k hr => S.h r k (by omega), fun q f l hq => S.cos q f l (by omega), fun q f l hq => S.sin q f l (by omega)⟩
    · have e0 : (t.val + 1) % 10 = 0 := by omega
      rw [e0]
      exact ⟨fun r k hr => absurd hr (by omega), fun q f l hq => absurd hq (by omega), fun q f l hq => absurd hq (by omega)⟩
  · have e1 : (t.val + 1) / 10 = t.val / 10 := by omega
    have e2 : (t.val + 1) % 10 = t.val % 10 + 1 := by omega
    refine inv_of (fun h10 s hs' => ?_) (fun s hs' => ?_)
    · have eb : baseN (t.val + 1 - 10) = baseN (t.val - 10) := by unfold baseN; omega
      rw [e1] at hs'
      rw [eb]
      exact slot_keep t W s (by omega) (I.prev (by omega) s hs')
    · have eb : baseN (t.val + 1) = baseN t.val := by unfold baseN; rw [e1]
      rw [e2, eb]
      rw [e1] at hs'
      exact slot_step t W s hs' (I.cur s hs')

/-! ## What the products find -/

theorem pay8_at (a : Vec Ideal S640x5120 .bf16) (b : Vec Ideal S1x1024x5120 .bf16) (o : Fin 640) (l : Fin 1024) :
    k0_pay8 (F := Ideal) a b (ix2 o l) = ∑ k, a (ix2 o k) * b (ix3 0 l k) := by
  pointwise [k0_pay8]

theorem weights_ld (x4 : Vec Ideal S640x5120 .bf16) (b : ∀ a, (![0, 0] : Fin 2 → ℕ) a + S640x5120.size a ≤ S640x5120.size a) :
    View.ld (S := S640x5120) x4 (Rect.unit ![0, 0] S640x5120.size b) = x4 := by
  refine View.ld_unit_zero (S := S640x5120) ?_ b x4
  funext a
  match a with
  | ⟨0, _⟩ => rfl
  | ⟨1, _⟩ => rfl

theorem cur_inb (t : Fin cfg0.N) : ∀ a, (![curW (grid0.coords t), 0, 0] : Fin 3 → ℕ) a + S1x1024x5120.size a ≤ S2x1024x5120.size a := by
  intro a
  have h := cur_eq t
  match a with
  | ⟨0, _⟩ => show curW (grid0.coords t) + 1 ≤ 2; omega
  | ⟨1, _⟩ => show 0 + 1024 ≤ 1024; omega
  | ⟨2, _⟩ => show 0 + 5120 ≤ 5120; omega

/-- From point 10 on the products find the whole of the token block before. -/
theorem ready (t : Fin cfg0.N) (h10 : 10 ≤ t.val) (I : Inv (kArgs m c) t.val hs cs) :
    ∃ (tv : EReal) (acc : FVec Ideal S640x1024 .f32),
      Loaded (grid0.coords t) (iblk m c 1 t) (iblk m c 4 t) hs tv acc
      ∧ Ready (kArgs m c) ((t.val / 10 - 1) * 1024) (grid0.coords t 1).val tv acc (iblk m c 5 t) cs (curW (grid0.coords t)) := by
  have ht := t_lt t
  have hw : curW (grid0.coords t) < 2 := by rw [cur_eq]; omega
  have eb : baseN (t.val - 10) = (t.val / 10 - 1) * 1024 := by unfold baseN; omega
  have S := I.prev h10 ⟨curW (grid0.coords t), hw⟩ (cur_eq t)
  rw [eb] at S
  refine ⟨View.ld (S := S1) (iblk m c 1 t) (Rect.unit ![0] S1.size inb_S1_S1_0) (Shape.Idx.first (by decide)),
    k0_pay8 (View.ld (S := S640x5120) (iblk m c 4 t) (Rect.unit ![0, 0] S640x5120.size inb_S640x5120_S640x5120_0_0))
      (View.ld (S := S2x1024x5120) hs (Rect.unit ![curW (grid0.coords t), 0, 0] S1x1024x5120.size (cur_inb t))),
    ⟨fun _ => rfl, fun _ => rfl⟩, ?_⟩
  refine ⟨?_, hw, fun o l => ?_, fun _ q f l => S.cos q f l q.isLt, fun _ q f l => S.sin q f l q.isLt⟩
  · rw [col_eq]; omega
  · rw [weights_ld, pay8_at, col_eq]
    unfold yN
    have e1 : ∀ k, View.ld (S := S2x1024x5120) hs (Rect.unit ![curW (grid0.coords t), 0, 0] S1x1024x5120.size (cur_inb t)) (ix3 0 l k)
        = hN (kArgs m c) ((t.val / 10 - 1) * 1024 + l.val) k := by
      intro k
      refine (View.ld_unit_apply_of _ _ _ _ _ (ix3 ⟨curW (grid0.coords t), hw⟩ l k) fun a => ?_).trans
        (S.h l k (by have := l.isLt; omega))
      match a with
      | ⟨0, _⟩ => show curW (grid0.coords t) = curW (grid0.coords t) + 0; omega
      | ⟨1, _⟩ => show l.val = 0 + l.val; omega
      | ⟨2, _⟩ => show k.val = 0 + k.val; omega
    have e2 : ∀ h, View.ld (S := S1) (iblk m c 1 t) (Rect.unit ![0] S1.size inb_S1_S1_0) (Shape.Idx.first h)
        = (kArgs m c).t (ix1 0) := by
      intro h
      refine (View.ld_unit_apply_of _ _ _ _ _ (ix1 0) fun a => ?_).trans (blk1 m c t)
      match a with
      | ⟨0, _⟩ => rfl
    rw [e2, blk5 m c t]
    simp only [e1, blk4 m c t h10]

end Cert.Proof.Qkv

end
-- ==== Proof.Qkv.Frame.lean ====
/-
  The projection's kernel over the extended reals: its run, with the two tables' contents carried from point to point and the
  projection in every block it writes.
-/
module

public import proofs.«01_k».proof.Proof.Qkv.RunA
public import proofs.«01_k».proof.Proof.Qkv.Invariant
public import Idealize.ShloMosaic.Lib.Claim

@[expose] public section

set_option maxRecDepth 16384

noncomputable section

namespace Cert.Proof.Qkv

open Cert.QkvKernelIdeal Cert.QkvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The blocks written -/

section
variable (c : Dev nD) (i : grid0.Coords) (arg2 : Memref sig .tc .smem S12 .i32) (harg2 : arg2.IsWhole) (arg3 : Memref sig .tc .smem S1 .f32) (harg3 : arg3.IsWhole) (arg4 : Memref sig .tc .vmem S128x5120 .bf16) (harg4 : arg4.IsWhole) (arg5 : Memref sig .tc .vmem S1x5120 .f32) (harg5 : arg5.IsWhole) (arg6 : Memref sig .tc .vmem S640x5120 .bf16) (harg6 : arg6.IsWhole) (arg7 : Memref sig .tc .vmem S640x1 .f32) (harg7 : arg7.IsWhole) (arg8 : Memref sig .tc .vmem S32x128 .f32) (harg8 : arg8.IsWhole) (arg9 : Memref sig .tc .vmem S640x1024 .bf16) (harg9 : arg9.IsWhole) (arg10 : Memref sig .tc .vmem S640x1024 .f32) (harg10 : arg10.IsWhole) (arg11 : Memref sig .tc .vmem S2x1024x5120 .bf16) (harg11 : arg11.IsWhole) (arg12 : Memref sig .tc .vmem S2x2x8x32x128 .f32) (harg12 : arg12.IsWhole) (hc0 : ¬cond0_0 i) (hc1 : cond0_1 i)
    (x0 : Vec Ideal S12 .i32) (x1 : Vec Ideal S1 .f32) (x2 : Vec Ideal S128x5120 .bf16) (x3 : Vec Ideal S1x5120 .f32) (x4 : Vec Ideal S640x5120 .bf16) (x5 : Vec Ideal S640x1 .f32) (x6 : Vec Ideal S32x128 .f32)
    (xs0 : Vec Ideal S2x1024x5120 .bf16) (xs1 : Vec Ideal S2x2x8x32x128 .f32)
  {A : Args} {n0 : ℕ} {tv : EReal} {acc : FVec Ideal S640x1024 .f32}

/-- The tiles cover the block. -/
theorem cover7 : ∀ y, ∃ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S32x128.size (by sl_kernel_rfl)

/-- So the block ends at the projection, whatever it held. -/
theorem out7 (R : Ready A n0 (i 1).val tv acc x5 xs1 (curW i)) (L : Loaded i x1 x4 xs0 tv acc) (f) :
    arg9.view.read (Elt Ideal) (arg9.view.writes (Elt Ideal) f (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1) = goalN A n0 (i 1).val := by
  rw [View.read_writes_eq_canon _ _ _ (cover7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  funext y
  exact View.canon_apply_of_pieces (goalN A n0 (i 1).val) _ (pieces7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 R L) y (cover7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y)

/-- The tiles cover the block. -/
theorem cover8 : ∀ y, ∃ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S32x128.size (by sl_kernel_rfl)

/-- So the block ends at the projection, whatever it held. -/
theorem out8 (R : Ready A n0 (i 1).val tv acc x5 xs1 (curW i)) (L : Loaded i x1 x4 xs0 tv acc) (f) :
    arg10.view.read (Elt Ideal) (arg10.view.writes (Elt Ideal) f (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1) = goalN A n0 (i 1).val := by
  rw [View.read_writes_eq_canon _ _ _ (cover8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  funext y
  exact View.canon_apply_of_pieces (goalN A n0 (i 1).val) _ (pieces8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 R L) y (cover8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y)

end

/-! ## Where the output windows are idle -/

theorem idle_early : ∀ t : Fin cfg0.N, t.val < 10 → cfg0.idle 7 (grid0.coords t) = true ∧ cfg0.idle 8 (grid0.coords t) = true :=
  (by decide +kernel : ∀ t : Fin grid0.N, t.val < 10 → cfg0.idle 7 (grid0.coords t) = true ∧ cfg0.idle 8 (grid0.coords t) = true)
theorem live_late : ∀ t : Fin cfg0.N, 10 ≤ t.val → cfg0.idle 7 (grid0.coords t) = false ∧ cfg0.idle 8 (grid0.coords t) = false :=
  (by decide +kernel : ∀ t : Fin grid0.N, 10 ≤ t.val → cfg0.idle 7 (grid0.coords t) = false ∧ cfg0.idle 8 (grid0.coords t) = false)
theorem noflush_early : ∀ t : Fin cfg0.N, t.val < 10 → (cfg0.win 7).flush t = false ∧ (cfg0.win 8).flush t = false :=
  (by decide +kernel : ∀ t : Fin grid0.N, t.val < 10 → win0_7.flush t = false ∧ win0_8.flush t = false)

/-! ## The pipeline's proof data -/

/-- The block of the projection a point writes. -/
def blkOut (c : Dev nD) (t : Fin cfg0.N) : S640x1024.Idx → EReal :=
  goalN (kArgs m c) ((t.val / 10 - 1) * 1024) (grid0.coords t 1).val

/-- The tables and the generator between points. -/
def phi (c : Dev nD) (n : ℕ) : sProp 𝕄 :=
  iprop((∃ hs cs, owns (c : Thread nD τ) scM0_0 fullShare hs ∗ owns (c : Thread nD τ) scM0_1 fullShare cs ∗ ⌜Inv (kArgs m c) n hs cs⌝)
    ∗ (∃ r, prngReg c r))

/-- What each buffer holds after a point: the inputs their blocks, the outputs the projection. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => (blkOut m c t : Vec Ideal S640x1024 .bf16)
    | ⟨8, h⟩ => (blkOut m c t : Vec Ideal S640x1024 .f32)
  Φ t := phi m c t.val
  q _ := fullShare
  owed _ := 0

/-- The arrays are as the region finds them. -/
theorem A_eq (c : Dev nD) (w : Fin cfg0.W) : (dats m 0 c).A w = V m c (Pipeline.arrRef spec0 w) := by
  dsimp only [dats]

/-- The body leaves each input at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem after0_7 (c : Dev nD) (t : Fin cfg0.N) : (dats m 0 c).after 7 t = (blkOut m c t : Vec Ideal S640x1024 .bf16) := by dsimp only [dats]
theorem after0_8 (c : Dev nD) (t : Fin cfg0.N) : (dats m 0 c).after 8 t = (blkOut m c t : Vec Ideal S640x1024 .f32) := by dsimp only [dats]

/-- Each input buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point, by its two cases. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = phi m c (t.val + 1) from rfl,
    show (dats m 0 c).owesAt () t.succ = (dats m 0 c).owesAt () t.castSucc from rfl,
    show (dats m 0 c).Φ t.castSucc = phi m c t.val from rfl]
  unfold phi
  have hN : t.val < 160 := lt_of_lt_of_eq t.isLt (show cfg0.N = 160 from N_0)
  by_cases h0 : t.val < 10
  · by_cases h1 : 10 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = iprop(∃ d, owns (c : Thread nD τ) (ms0_7 t) fullShare ((dats m 0 c).before 7 t d)) from by
      unfold Dat.leavesExact; rw [(idle_early t h0).1, (noflush_early t h0).1]]
      rw [show (dats m 0 c).leavesExact 8 t = iprop(∃ d, owns (c : Thread nD τ) (ms0_8 t) fullShare ((dats m 0 c).before 8 t d)) from by
      unfold Dat.leavesExact; rw [(idle_early t h0).2, (noflush_early t h0).2]]
      iintro ⟨⟨⟨%hs, %cs, HS0, HS1, %I⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) ((dats m 0 c).before 7 t d7) ((dats m 0 c).before 8 t d8) hs cs).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · iexists _
          iexists _
          isplitl [HS0]
          · unfold owns
            iexists _; isplitr; swap; · iexact HS0
            ipureintro; rfl
          isplitl [HS1]
          · unfold owns
            iexists _; isplitr; swap; · iexact HS1
            ipureintro; rfl
          ipureintro
          exact inv_step t (wroteA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) hs cs ((dats m 0 c).before 7 t d7) ((dats m 0 c).before 8 t d8)) I
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · by_cases h1 : 10 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [(live_late t h1).1], after0_7]
      rw [show (dats m 0 c).leavesExact 8 t = owns (c : Thread nD τ) (ms0_8 t) fullShare ((dats m 0 c).after 8 t) from by
      unfold Dat.leavesExact; rw [(live_late t h1).2], after0_8]
      iintro ⟨⟨⟨%hs, %cs, HS0, HS1, %I⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨tv, acc, L, R⟩ := ready t h1 I
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) hs cs).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · iexists _
          iexists _
          isplitl [HS0]
          · unfold owns
            iexists _; isplitr; swap; · iexact HS0
            ipureintro; rfl
          isplitl [HS1]
          · unfold owns
            iexists _; isplitr; swap; · iexact HS1
            ipureintro; rfl
          ipureintro
          exact inv_step t (wroteB c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) hs cs) I
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      icases H7 with ⟨%f7, H7⟩
      icases H8 with ⟨%f8, H8⟩
      isplitl [H7]
      · unfold owns
        iexists _; isplitr; swap; · iexact H7
        ipureintro
        exact out7 c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) hs cs R L f7
      unfold owns
      iexists _; isplitr; swap; · iexact H8
      ipureintro
      exact out8 c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) hs cs R L f8
    · exfalso; omega

/-- The body as the pipeline calls it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ phi m c 0 := by
  rw [PhiA0_eq]
  unfold phi
  iintro ⟨⟨⟨%hs, HS0⟩, ⟨%cs, HS1⟩⟩, Hg⟩
  isplitl [HS0 HS1]
  · iexists hs
    iexists cs
    isplitl [HS0]; · iexact HS0
    isplitl [HS1]; · iexact HS1
    ipureintro
    exact inv_zero _ _ _
  iexact Hg

theorem phi_out (c : Dev nD) (n : ℕ) : phi m c n ⊢ (Pipeline.ΦA spec0 c : sProp 𝕄) := by
  rw [PhiA0_eq]
  unfold phi
  iintro ⟨⟨%hs, %cs, HS0, HS1, -⟩, Hg⟩
  isplitl [HS0 HS1]
  · isplitl [HS0]
    · iexists _; iexact HS0
    iexists _; iexact HS1
  iexact Hg

set_option backward.isDefEq.respectTransparency.types false in
/-- The run, with every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

/-- The run: every array as the points leave it. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame of the projection kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.Qkv

end
-- ==== Proof.Qkv.Value.lean ====
/-
  The projection's kernel over the extended reals: its two results, whole.
-/
module

public import proofs.«01_k».proof.Proof.Qkv.Frame
public import Idealize.ShloMosaic.Lib.StableHlo.Run
import Idealize.ShloMosaic.Lib.Tactic

@[expose] public section

set_option maxRecDepth 16384

noncomputable section

namespace Cert.Proof.Qkv

open Idealize.ShloMosaic Idealize.ShloMosaic.TcCoe Idealize.SL.Sem
open Cert.QkvKernelIdeal Cert.QkvKernelIdeal.Gen
open Idealize.ShloMosaic.Pipeline (Dat)

variable (m : (ℓ : Loc nD τ sig) → Buf (Elt Ideal) ℓ) (ρ : Dev nD → PrngReg)

/-- All rows of the projection. -/
def resQ (c : Dev nD) : Buf (Elt Ideal) ((c : Thread nD τ).loc main_v13_0) :=
  show Vec Ideal S6400x15360 .bf16 from fun i => zN (kArgs m c) (i 1).val (i 0).val
/-- Its key and value rows. -/
def resKv (c : Dev nD) : Buf (Elt Ideal) ((c : Thread nD τ).loc main_v13_1) :=
  show Vec Ideal S1280x15360 .f32 from fun i => zN (kArgs m c) (i 1).val (5120 + (i 0).val)

theorem flushes7 : ∀ t : Fin cfg0.N, (cfg0.win 7).flush t = true → 10 ≤ t.val :=
  (by decide +kernel : ∀ t : Fin grid0.N, win0_7.flush t = true → 10 ≤ t.val)
theorem flush7 : ∀ t : Fin cfg0.N, 10 ≤ t.val → (cfg0.win 7).flush t = true :=
  (by decide +kernel : ∀ t : Fin grid0.N, 10 ≤ t.val → win0_7.flush t = true)
theorem flushes8 : ∀ t : Fin cfg0.N, (cfg0.win 8).flush t = true → 10 ≤ t.val ∧ 8 ≤ t.val % 10 :=
  (by decide +kernel : ∀ t : Fin grid0.N, win0_8.flush t = true → 10 ≤ t.val ∧ 8 ≤ t.val % 10)
theorem flush8 : ∀ t : Fin cfg0.N, 10 ≤ t.val → 8 ≤ t.val % 10 → (cfg0.win 8).flush t = true :=
  (by decide +kernel : ∀ t : Fin grid0.N, 10 ≤ t.val → 8 ≤ t.val % 10 → win0_8.flush t = true)

/-- An element of a point's block. -/
theorem blkOut_at (c : Dev nD) (t : Fin cfg0.N) (r : Fin 640) (l : Fin 1024) :
    blkOut m c t (ix2 r l) = zN (kArgs m c) ((t.val / 10 - 1) * 1024 + l.val) (t.val % 10 * 640 + r.val) := by
  unfold blkOut goalN
  rw [col_eq]
  rfl

theorem flushed7 (c : Dev nD) (t : Fin cfg0.N) (hf : (cfg0.win 7).flush t = true) :
    (dats m 0 c).flushed 7 t = ((cfg0.win 7).blk t).view.read (Elt Ideal) (resQ m c) := by
  have h10 := flushes7 t hf
  have e : (dats m 0 c).flushed 7 t = (blkOut m c t : Vec Ideal S640x1024 .bf16) := by
    unfold Dat.flushed
    rw [after0_7]
    rfl
  rw [e]
  generalize hG : resQ m c = G
  funext j
  obtain ⟨r, l, rfl⟩ : ∃ (r : Fin 640) (l : Fin 1024), j = ix2 r l := ⟨j 0, j 1, eq_ix2 j⟩
  rw [View.read_apply, ← hG]
  refine (blkOut_at m c t r l).trans ?_
  show zN (kArgs m c) _ _ = zN (kArgs m c) (win0_7.index t 1 * 1024 + 1 * l.val) (win0_7.index t 0 * 640 + 1 * r.val)
  rw [(idx7 t h10).1, (idx7 t h10).2, Nat.one_mul, Nat.one_mul]

theorem flushed8 (c : Dev nD) (t : Fin cfg0.N) (hf : (cfg0.win 8).flush t = true) :
    (dats m 0 c).flushed 8 t = ((cfg0.win 8).blk t).view.read (Elt Ideal) (resKv m c) := by
  obtain ⟨h10, h8⟩ := flushes8 t hf
  have e : (dats m 0 c).flushed 8 t = (blkOut m c t : Vec Ideal S640x1024 .f32) := by
    unfold Dat.flushed
    rw [after0_8]
    rfl
  rw [e]
  generalize hG : resKv m c = G
  funext j
  obtain ⟨r, l, rfl⟩ : ∃ (r : Fin 640) (l : Fin 1024), j = ix2 r l := ⟨j 0, j 1, eq_ix2 j⟩
  rw [View.read_apply, ← hG]
  refine (blkOut_at m c t r l).trans ?_
  show zN (kArgs m c) _ _ = zN (kArgs m c) (win0_8.index t 1 * 1024 + 1 * l.val) (5120 + (win0_8.index t 0 * 640 + 1 * r.val))
  rw [(idx8 t h10).1, (idx8 t h10).2, Nat.one_mul, Nat.one_mul]
  exact congrArg (zN (kArgs m c) _) (by omega)

/-- The points' blocks cover all rows. -/
theorem final7 (c : Dev nD) : (dats m 0 c).arrAt 7 cfg0.N = resQ m c :=
  (dats m 0 c).arrAt_eq_of_cover 7 (resQ m c) (flushed7 m c) fun i => by
    have h0 : (i 0 : Nat) < 6400 := (i 0).isLt
    have h1 : (i 1 : Nat) < 15360 := (i 1).isLt
    let t : Fin cfg0.N := ⟨((i 1 : Nat) / 1024 + 1) * 10 + (i 0 : Nat) / 640, by rw [show cfg0.N = 160 from N_0]; omega⟩
    have e0 : t.val % 10 = (i 0 : Nat) / 640 := by show (((i 1 : Nat) / 1024 + 1) * 10 + (i 0 : Nat) / 640) % 10 = _; omega
    have e1 : t.val / 10 - 1 = (i 1 : Nat) / 1024 := by show (((i 1 : Nat) / 1024 + 1) * 10 + (i 0 : Nat) / 640) / 10 - 1 = _; omega
    have h10 : 10 ≤ t.val := by show 10 ≤ ((i 1 : Nat) / 1024 + 1) * 10 + (i 0 : Nat) / 640; omega
    refine ⟨t, flush7 t h10, ?_⟩
    show i ∈ ((View.whole main_v13_0).slice (win0_7.rect t)).set
    rw [View.set_slice_whole, Rect.mem_set_unit]
    intro a
    match a with
    | ⟨0, _⟩ => show win0_7.index t 0 * 640 ≤ (i 0 : Nat) ∧ (i 0 : Nat) < win0_7.index t 0 * 640 + 640
                rw [(idx7 t h10).1, e0]; omega
    | ⟨1, _⟩ => show win0_7.index t 1 * 1024 ≤ (i 1 : Nat) ∧ (i 1 : Nat) < win0_7.index t 1 * 1024 + 1024
                rw [(idx7 t h10).2, e1]; omega

/-- The last two blocks of each token block cover the key and value rows. -/
theorem final8 (c : Dev nD) : (dats m 0 c).arrAt 8 cfg0.N = resKv m c :=
  (dats m 0 c).arrAt_eq_of_cover 8 (resKv m c) (flushed8 m c) fun i => by
    have h0 : (i 0 : Nat) < 1280 := (i 0).isLt
    have h1 : (i 1 : Nat) < 15360 := (i 1).isLt
    let t : Fin cfg0.N := ⟨((i 1 : Nat) / 1024 + 1) * 10 + (8 + (i 0 : Nat) / 640), by rw [show cfg0.N = 160 from N_0]; omega⟩
    have e0 : t.val % 10 = 8 + (i 0 : Nat) / 640 := by show (((i 1 : Nat) / 1024 + 1) * 10 + (8 + (i 0 : Nat) / 640)) % 10 = _; omega
    have e1 : t.val / 10 - 1 = (i 1 : Nat) / 1024 := by show (((i 1 : Nat) / 1024 + 1) * 10 + (8 + (i 0 : Nat) / 640)) / 10 - 1 = _; omega
    have h10 : 10 ≤ t.val := by show 10 ≤ ((i 1 : Nat) / 1024 + 1) * 10 + (8 + (i 0 : Nat) / 640); omega
    refine ⟨t, flush8 t h10 (by omega), ?_⟩
    show i ∈ ((View.whole main_v13_1).slice (win0_8.rect t)).set
    rw [View.set_slice_whole, Rect.mem_set_unit]
    intro a
    match a with
    | ⟨0, _⟩ => show win0_8.index t 0 * 640 ≤ (i 0 : Nat) ∧ (i 0 : Nat) < win0_8.index t 0 * 640 + 640
                rw [(idx8 t h10).1, e0]; omega
    | ⟨1, _⟩ => show win0_8.index t 1 * 1024 ≤ (i 1 : Nat) ∧ (i 1 : Nat) < win0_8.index t 1 * 1024 + 1024
                rw [(idx8 t h10).2, e1]; omega

/-- The run: the two results, the arguments unchanged. -/
theorem run : θ_run defs (onTc (τ := τ) (main (F := Ideal))) ⟨m, fun _ => 0, ρ⟩ fun r => ∀ c : Dev nD,
      r.2.mem ((c : Thread nD τ).loc main_v13_0) = resQ m c
      ∧ r.2.mem ((c : Thread nD τ).loc main_v13_1) = resKv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 7).trans (final7 m c), ((h.1 c).1 8).trans (final8 m c), h.2 c⟩)
    (θ_run_and (run_main m ρ) (unchanged m ρ))

end Cert.Proof.Qkv

end
-- ==== Proof.Dequant.Tile.lean ====
/-
  The arithmetic of the two dequantising calls, on one tile: a byte's two codes become two small floats by masks and
  shifts on four bytes at a time, each is multiplied by its block's scale, and the rows of the low and high codes are
  interleaved. Here each step is read at an element.
-/
module

public import Idealize.ShloMosaic.Lib.Pointwise
public import Idealize.ShloMosaic.Lib.BitcastFour
public import Idealize.ShloMosaic.Lib.Pipeline.Value
public import Idealize.ShloMosaic.Lib.Tactic

@[expose] public section

set_option maxRecDepth 16384

noncomputable section

namespace Cert.Proof.Dequant

open Idealize.ShloMosaic Idealize.ShloMosaic.TcCoe Idealize.SL.Sem

/-- A tile of `r` rows of 128 lanes. -/
abbrev T (r : Nat) : Shape := ⟨2, ![r, 128]⟩

/-- The float pattern of a byte's low code. -/
def loByte (b : BitVec 8) : BitVec 8 := (b <<< 2 &&& 0x1C#8) ||| (b <<< 4 &&& 0x80#8)
/-- The float pattern of a byte's high code. -/
def hiByte (b : BitVec 8) : BitVec 8 := (b >>> 2 &&& 0x1C#8) ||| (b &&& 0x80#8)

/-- Bit `q` of byte `p` of the mask that keeps the exponent's low bits and the top mantissa bit of each byte. -/
theorem mask1C (p q : Nat) (hp : p < 4) (hq : q < 8) : (471604252#32).getLsbD (8 * p + q) = (0x1C#8).getLsbD q := by
  interval_cases p <;> interval_cases q <;> rfl
/-- Bit `q` of byte `p` of the mask that keeps the sign of each byte. -/
theorem mask80 (p q : Nat) (hp : p < 4) (hq : q < 8) : (2155905152#32).getLsbD (8 * p + q) = (0x80#8).getLsbD q := by
  interval_cases p <;> interval_cases q <;> rfl

theorem bits1C (q : Nat) (hq : q < 8) : (0x1C#8).getLsbD q = (decide (2 ≤ q) && decide (q ≤ 4)) := by
  interval_cases q <;> rfl
theorem bits80 (q : Nat) (hq : q < 8) : (0x80#8).getLsbD q = decide (q = 7) := by
  interval_cases q <;> rfl

/-- Byte `p` of a word whose bytes are `x`: the low codes' masks act byte by byte. -/
theorem lo_bit (W : BitVec 32) (b : BitVec 8) (p q : Nat) (hp : p < 4) (hq : q < 8)
    (hW : ∀ i, i < 8 → W.getLsbD (8 * p + i) = b.getLsbD i) :
    ((W <<< 2 &&& 471604252#32) ||| (W <<< 4 &&& 2155905152#32)).getLsbD (8 * p + q) = (loByte b).getLsbD q := by
  unfold loByte
  simp only [BitVec.getLsbD_or, BitVec.getLsbD_and, BitVec.getLsbD_shiftLeft, mask1C p q hp hq, mask80 p q hp hq,
    bits1C q hq, bits80 q hq]
  have h32 : 8 * p + q < 32 := by omega
  congr 1
  · by_cases h : 2 ≤ q
    · have := hW (q - 2) (by omega)
      rw [show 8 * p + q - 2 = 8 * p + (q - 2) by omega, this]
      simp [h32, hq, show ¬ q < 2 by omega, show ¬ 8 * p + q < 2 by omega]
    · simp [h]
  · by_cases h : q = 7
    · subst h
      have := hW 3 (by omega)
      rw [show 8 * p + 7 - 4 = 8 * p + 3 by omega, this]
      simp [h32, show ¬ 8 * p + 7 < 4 by omega]
    · simp [h]

/-- The same for the high codes. -/
theorem hi_bit (W : BitVec 32) (b : BitVec 8) (p q : Nat) (hp : p < 4) (hq : q < 8)
    (hW : ∀ i, i < 8 → W.getLsbD (8 * p + i) = b.getLsbD i) :
    ((W >>> 2 &&& 471604252#32) ||| (W &&& 2155905152#32)).getLsbD (8 * p + q) = (hiByte b).getLsbD q := by
  unfold hiByte
  simp only [BitVec.getLsbD_or, BitVec.getLsbD_and, BitVec.getLsbD_ushiftRight, mask1C p q hp hq, mask80 p q hp hq,
    bits1C q hq, bits80 q hq, hW q hq]
  congr 1
  by_cases h : q ≤ 4
  · have := hW (2 + q) (by omega)
    rw [show 2 + (8 * p + q) = 8 * p + (2 + q) by omega, this]
  · simp [h]

/-- A word tile read back as bytes: row `4 a + p` holds byte `p` of word row `a`. -/
theorem bytes_getLsbD (w : (T 8).Idx → BitVec 32) (h : (T 8).Bitcasts 32 (T 32) 8) (r : Fin 32) (l : Fin 128) (q : Nat) (hq : q < 8) :
    (bitcast (T 32) 8 w h (ix2 r l)).getLsbD q = (w (ix2 ⟨r.val / 4, by omega⟩ l)).getLsbD (8 * (r.val % 4) + q) := by
  rw [bitcast_getLsbD w h _ q hq (by decide)]
  have e1 : ((T 32).row (ix2 r l) * 8 + q) / 32 = r.val / 4 := by
    show (r.val * 8 + q) / 32 = r.val / 4; omega
  have e2 : ((T 32).row (ix2 r l) * 8 + q) % 32 = 8 * (r.val % 4) + q := by
    show (r.val * 8 + q) % 32 = 8 * (r.val % 4) + q; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A byte tile read as words and back at one byte. -/
theorem word_byte (x : (T 32).Idx → BitVec 8) (h : (T 32).Bitcasts 8 (T 8) 32) (r : Fin 32) (l : Fin 128) (i : Nat) (hi : i < 8) :
    (bitcast (T 8) 32 x h (ix2 ⟨r.val / 4, by omega⟩ l)).getLsbD (8 * (r.val % 4) + i) = (x (ix2 r l)).getLsbD i := by
  refine (bitcast_8_32_getLsbD_ix2 x h ⟨r.val / 4, by omega⟩ l (8 * (r.val % 4) + i) (by omega) r
    (by show r.val = 4 * (r.val / 4) + (8 * (r.val % 4) + i) / 8; omega)).trans ?_
  rw [show (8 * (r.val % 4) + i) % 8 = i by omega]
  rfl

section AnyF
variable {F : FTy → Type} [FloatOps F]

/-- The low codes of a tile of bytes, as floats. -/
def lowF (x : Vec F (T 32) .i8) (h : (T 32).Bitcasts 8 (T 8) 32) (h' : (T 8).Bitcasts 32 (T 32) 8) : FVec F (T 32) .f32 :=
  extf .f32 (bitcastToFloat .fp8e4m3 (bitcast (T 32) 8
    (ori (andi (shli (bitcast (T 8) 32 x h) (broadcast (T 8) 2#32)) (broadcast (T 8) 471604252#32))
      (andi (shli (bitcast (T 8) 32 x h) (broadcast (T 8) 4#32)) (broadcast (T 8) 2155905152#32))) h') : FVec F (T 32) .fp8e4m3) (by decide)

/-- The high codes of a tile of bytes, as floats. -/
def highF (x : Vec F (T 32) .i8) (h : (T 32).Bitcasts 8 (T 8) 32) (h' : (T 8).Bitcasts 32 (T 32) 8) : FVec F (T 32) .f32 :=
  extf .f32 (bitcastToFloat .fp8e4m3 (bitcast (T 32) 8
    (ori (andi (shrui (bitcast (T 8) 32 x h) (broadcast (T 8) 2#32)) (broadcast (T 8) 471604252#32))
      (andi (bitcast (T 8) 32 x h) (broadcast (T 8) 2155905152#32))) h') : FVec F (T 32) .fp8e4m3) (by decide)

/-- The float of a byte's low code, a sixty-fourth of the code's value. -/
def loVal (b : BitVec 8) : F .f32 := FloatOps.extf .f32 (by decide) (FloatOps.ofBits (F := F) .fp8e4m3 (loByte b))
/-- The float of a byte's high code, a sixty-fourth of the code's value. -/
def hiVal (b : BitVec 8) : F .f32 := FloatOps.extf .f32 (by decide) (FloatOps.ofBits (F := F) .fp8e4m3 (hiByte b))

theorem lowF_apply (x : Vec F (T 32) .i8) (h h') (r : Fin 32) (l : Fin 128) :
    lowF x h h' (ix2 r l) = loVal (x (ix2 r l) : BitVec 8) := by
  show FloatOps.extf .f32 _ (FloatOps.ofBits (F := F) .fp8e4m3 (bitcast (T 32) 8 _ h' (ix2 r l))) = _
  unfold loVal
  congr 2
  apply BitVec.eq_of_getLsbD_eq
  intro q hq
  rw [bytes_getLsbD _ h' r l q hq]
  exact lo_bit _ _ (r.val % 4) q (by omega) hq fun i hi => word_byte x h r l i hi

theorem highF_apply (x : Vec F (T 32) .i8) (h h') (r : Fin 32) (l : Fin 128) :
    highF x h h' (ix2 r l) = hiVal (x (ix2 r l) : BitVec 8) := by
  show FloatOps.extf .f32 _ (FloatOps.ofBits (F := F) .fp8e4m3 (bitcast (T 32) 8 _ h' (ix2 r l))) = _
  unfold hiVal
  congr 2
  apply BitVec.eq_of_getLsbD_eq
  intro q hq
  rw [bytes_getLsbD _ h' r l q hq]
  exact hi_bit _ _ (r.val % 4) q (by omega) hq fun i hi => word_byte x h r l i hi

/-- The float of the code in a byte that output row parity `p` names. -/
def codeVal (p : Nat) (b : BitVec 8) : F .f32 := if p = 0 then loVal b else hiVal b

/-- Eight rows of low and high codes under one block's scale: sixteen rows of weights. -/
def group (s : FVec F (T 4) .f32) (lo hi : FVec F (T 32) .f32) (g o : Nat) (hs : (T 4).Slices ![g, 0] (T 1))
    (ho : (T 32).Slices ![o, 0] (T 8)) (hb : (T 1).Broadcasts (T 8)) (hc : (T 16).Bitcasts 16 (T 8) 32) : FVec F (T 16) .bf16 :=
  interleaveRows (T 16)
    (truncf .bf16 (mulf (extractStridedSlice (T 8) ![o, 0] lo ho) (broadcastTo (T 8) (extractStridedSlice (T 1) ![g, 0] s hs) hb)) (by decide))
    (truncf .bf16 (mulf (extractStridedSlice (T 8) ![o, 0] hi ho) (broadcastTo (T 8) (extractStridedSlice (T 1) ![g, 0] s hs) hb)) (by decide)) hc

theorem scaled_apply (s : FVec F (T 4) .f32) (x : FVec F (T 32) .f32) (g o : Nat) (hs : (T 4).Slices ![g, 0] (T 1))
    (ho : (T 32).Slices ![o, 0] (T 8)) (hb : (T 1).Broadcasts (T 8)) (r : Fin 8) (l : Fin 128) (a : Fin 32) (ha : a.val = o + r.val)
    (b : Fin 4) (hg : b.val = g) :
    (truncf .bf16 (mulf (extractStridedSlice (T 8) ![o, 0] x ho) (broadcastTo (T 8) (extractStridedSlice (T 1) ![g, 0] s hs) hb)) (by decide) : FVec F (T 8) .bf16) (ix2 r l)
      = FloatOps.truncf .bf16 (by decide) (FloatOps.mulf (x (ix2 a l)) (s (ix2 b l))) := by
  show FloatOps.truncf .bf16 _ (FloatOps.mulf (extractStridedSlice (T 8) ![o, 0] x ho (ix2 r l))
    (broadcastTo (T 8) (extractStridedSlice (T 1) ![g, 0] s hs) hb (ix2 r l))) = _
  have e1 : extractStridedSlice (T 8) ![o, 0] x ho (ix2 r l) = x (ix2 a l) :=
    extractStridedSlice_apply _ x ho _ _ fun c => match c with
      | ⟨0, _⟩ => ha
      | ⟨1, _⟩ => (Nat.zero_add _).symm
  have e2 : broadcastTo (T 8) (extractStridedSlice (T 1) ![g, 0] s hs) hb (ix2 r l) = s (ix2 b l) :=
    (broadcastTo_apply _ hb (ix2 r l) (ix2 (0 : Fin 1) l) fun c => match c with
      | ⟨0, _⟩ => rfl
      | ⟨1, _⟩ => rfl).trans
    (extractStridedSlice_apply _ s hs _ _ fun c => match c with
      | ⟨0, _⟩ => hg
      | ⟨1, _⟩ => (Nat.zero_add _).symm)
  rw [e1, e2]

/-- Row `r` of a group is the code of parity `r % 2` in row `r / 2`, times the scale. -/
theorem group_apply (s : FVec F (T 4) .f32) (x : Vec F (T 32) .i8) (h h') (g o : Nat) (hs ho hb hc) (r : Fin 16) (l : Fin 128)
    (a : Fin 32) (ha : a.val = o + r.val / 2) (b : Fin 4) (hg : b.val = g) :
    group s (lowF x h h') (highF x h h') g o hs ho hb hc (ix2 r l)
      = FloatOps.truncf .bf16 (by decide) (FloatOps.mulf (codeVal (r.val % 2) (x (ix2 a l) : BitVec 8)) (s (ix2 b l))) := by
  unfold group codeVal
  rw [interleaveRows_apply]
  have hi : ∀ (y : (T 8).Idx → F .bf16) (f : Fin (T 8).rank → Nat) (hf : ∀ b, f b < (T 8).size b)
      (h0 : f ⟨0, Nat.zero_lt_two⟩ = r.val / 2) (h1 : f ⟨1, Nat.one_lt_two⟩ = l.val),
      y (fun b => ⟨f b, hf b⟩) = y (ix2 ⟨r.val / 2, by omega⟩ l) := by
    intro y f hf h0 h1
    congr 1
    funext c
    match c with
    | ⟨0, _⟩ => exact Fin.ext h0
    | ⟨1, _⟩ => exact Fin.ext h1
  have hrow : (T 16).row (ix2 r l) = r.val := rfl
  rw [hrow]
  by_cases hp : r.val % 2 = 0
  · rw [if_pos hp, if_pos hp]
    rw [← lowF_apply x h h' a l]
    refine Eq.trans ?_ (scaled_apply s (lowF x h h') g o hs ho hb ⟨r.val / 2, by omega⟩ l a ha b hg)
    congr 1
    funext c
    match c with
    | ⟨0, _⟩ => rfl
    | ⟨1, _⟩ => rfl
  · rw [if_neg hp, if_neg hp]
    rw [← highF_apply x h h' a l]
    refine Eq.trans ?_ (scaled_apply s (highF x h h') g o hs ho hb ⟨r.val / 2, by omega⟩ l a ha b hg)
    congr 1
    funext c
    match c with
    | ⟨0, _⟩ => rfl
    | ⟨1, _⟩ => rfl

/-- Four pieces of `n` rows stacked, read at a row. -/
theorem stack4_get {α : Type} (n N : Nat) (x : Fin 4 → ((T n).Idx → α))
    (h : Shape.Concatenates [T n, T n, T n, T n] (T N) 0) (k : Fin 4) (r : Fin N) (r' : Fin n) (l : Fin 128)
    (hr : n * k.val + r'.val = r.val) :
    concatenate (T N) 0 [⟨T n, x 0⟩, ⟨T n, x 1⟩, ⟨T n, x 2⟩, ⟨T n, x 3⟩] h (ix2 r l) = x k (ix2 r' l) := by
  refine concatenate_apply_piece (t := T N) 0 [⟨T n, x 0⟩, ⟨T n, x 1⟩, ⟨T n, x 2⟩, ⟨T n, x 3⟩] h (ix2 r l) k.val k.isLt (T n) (x k) ?_ rfl (n * k.val) ?_ (ix2 r' l) ?_ hr
  · match k with
    | ⟨0, _⟩ => rfl
    | ⟨1, _⟩ => rfl
    | ⟨2, _⟩ => rfl
    | ⟨3, _⟩ => rfl
  · match k with
    | ⟨0, _⟩ => rfl
    | ⟨1, _⟩ => show n + 0 = n * 1; omega
    | ⟨2, _⟩ => show n + (n + 0) = n * 2; omega
    | ⟨3, _⟩ => show n + (n + (n + 0)) = n * 3; omega
  · intro c hc
    match c with
    | ⟨0, _⟩ => exact absurd rfl hc
    | ⟨1, _⟩ => rfl

/-- The same with the piece found by cases: each piece that may hold the row reads as `v` there. -/
theorem stack4 {α : Type} (n N : Nat) (x0 x1 x2 x3 : (T n).Idx → α)
    (h : Shape.Concatenates [T n, T n, T n, T n] (T N) 0) (k : Nat) (hk : k < 4) (r : Fin N) (r' : Fin n) (l : Fin 128)
    (hr : n * k + r'.val = r.val) (v : α) (h0 : k = 0 → x0 (ix2 r' l) = v) (h1 : k = 1 → x1 (ix2 r' l) = v)
    (h2 : k = 2 → x2 (ix2 r' l) = v) (h3 : k = 3 → x3 (ix2 r' l) = v) :
    concatenate (T N) 0 [⟨T n, x0⟩, ⟨T n, x1⟩, ⟨T n, x2⟩, ⟨T n, x3⟩] h (ix2 r l) = v := by
  have e := stack4_get n N ![x0, x1, x2, x3] h ⟨k, hk⟩ r r' l hr
  refine Eq.trans e ?_
  obtain rfl | rfl | rfl | rfl : k = 0 ∨ k = 1 ∨ k = 2 ∨ k = 3 := by omega
  · exact h0 rfl
  · exact h1 rfl
  · exact h2 rfl
  · exact h3 rfl

/-- The tile of bytes reads as words. -/
theorem toWords : (T 32).Bitcasts 8 (T 8) 32 := by decide
/-- The words read as bytes. -/
theorem toBytes : (T 8).Bitcasts 32 (T 32) 8 := by decide

theorem cat64 : Shape.Concatenates [T 16, T 16, T 16, T 16] (T 64) 0 := by decide
theorem cat256 : Shape.Concatenates [T 64, T 64, T 64, T 64] (T 256) 0 := by decide

/-- Thirty-two rows of codes under four blocks' scales: sixty-four rows of weights. -/
def quarter (s : FVec F (T 4) .f32) (x : Vec F (T 32) .i8) : FVec F (T 64) .bf16 :=
  concatenate (T 64) 0
    [⟨T 16, group s (lowF x toWords toBytes) (highF x toWords toBytes) 0 0 (by decide) (by decide) (by decide) (by decide)⟩,
      ⟨T 16, group s (lowF x toWords toBytes) (highF x toWords toBytes) 1 8 (by decide) (by decide) (by decide) (by decide)⟩,
      ⟨T 16, group s (lowF x toWords toBytes) (highF x toWords toBytes) 2 16 (by decide) (by decide) (by decide) (by decide)⟩,
      ⟨T 16, group s (lowF x toWords toBytes) (highF x toWords toBytes) 3 24 (by decide) (by decide) (by decide) (by decide)⟩] cat64

/-- Row `r` of a quarter is the code of parity `r % 2` in row `r / 2`, times the scale of block `r / 16`. -/
theorem quarter_apply (s : FVec F (T 4) .f32) (x : Vec F (T 32) .i8) (r : Fin 64) (l : Fin 128) :
    quarter s x (ix2 r l)
      = FloatOps.truncf .bf16 (by decide) (FloatOps.mulf (codeVal (r.val % 2) (x (ix2 ⟨r.val / 2, by omega⟩ l) : BitVec 8))
          (s (ix2 ⟨r.val / 16, by omega⟩ l))) := by
  have hk : r.val / 16 < 4 := by omega
  have hg : ∀ (g o : Nat) hs ho hb hc, r.val / 16 = g → o = 8 * g →
      group s (lowF x toWords toBytes) (highF x toWords toBytes) g o hs ho hb hc (ix2 (⟨r.val % 16, by omega⟩ : Fin 16) l)
        = FloatOps.truncf .bf16 (by decide) (FloatOps.mulf (codeVal (r.val % 2) (x (ix2 ⟨r.val / 2, by omega⟩ l) : BitVec 8))
          (s (ix2 ⟨r.val / 16, by omega⟩ l))) := by
    intro g o hs ho hb hc h1 h2
    refine (group_apply s x _ _ g o hs ho hb hc _ l ⟨r.val / 2, by omega⟩ (by show r.val / 2 = o + r.val % 16 / 2; omega) ⟨r.val / 16, hk⟩ h1).trans ?_
    rw [show (⟨r.val % 16, by omega⟩ : Fin 16).val % 2 = r.val % 2 by show r.val % 16 % 2 = _; omega]
  exact stack4 16 64 _ _ _ _ cat64 (r.val / 16) hk r ⟨r.val % 16, by omega⟩ l (by show 16 * (r.val / 16) + r.val % 16 = r.val; omega) _
    (fun h => hg 0 0 _ _ _ _ h rfl) (fun h => hg 1 8 _ _ _ _ h rfl) (fun h => hg 2 16 _ _ _ _ h rfl) (fun h => hg 3 24 _ _ _ _ h rfl)

/-- Four rows of a tile of scales. -/
theorem slices4 (o : Nat) (h : o ≤ 28) : (T 32).Slices ![o, 0] (T 4) :=
  ⟨rfl, fun a => match a with
    | ⟨0, _⟩ => by show o + 4 ≤ 32; omega
    | ⟨1, _⟩ => by show 0 + 128 ≤ 128; omega⟩

/-- The scales as floats, sixty-four times as large. -/
def scales (v : Vec F (T 32) .fp8e4m3) : FVec F (T 32) .f32 :=
  mulf (extf .f32 v (by decide)) (broadcast (T 32) (Scalar.ofBits .f32 0x42800000#32))

/-- What the body stores at once: four tiles of codes, under the scales from row `o` on. -/
def tile (v : Vec F (T 32) .fp8e4m3) (o : Nat) (h : o ≤ 16) (c0 c1 c2 c3 : Vec F (T 32) .i8) : FVec F (T 256) .bf16 :=
  concatenate (T 256) 0
    [⟨T 64, quarter (extractStridedSlice (T 4) ![o, 0] (scales v) (slices4 o (by omega))) c0⟩,
      ⟨T 64, quarter (extractStridedSlice (T 4) ![o + 4, 0] (scales v) (slices4 (o + 4) (by omega))) c1⟩,
      ⟨T 64, quarter (extractStridedSlice (T 4) ![o + 8, 0] (scales v) (slices4 (o + 8) (by omega))) c2⟩,
      ⟨T 64, quarter (extractStridedSlice (T 4) ![o + 12, 0] (scales v) (slices4 (o + 12) (by omega))) c3⟩] cat256

/-- A weight from its byte, the row's parity and its block's scale. -/
def weight (p : Nat) (b : BitVec 8) (s : F .fp8e4m3) : F .bf16 :=
  FloatOps.truncf .bf16 (by decide) (FloatOps.mulf (codeVal p b)
    (FloatOps.mulf (FloatOps.extf .f32 (by decide) s) (FloatOps.ofBits .f32 0x42800000#32)))

/-- Row `r` of a tile: the code of parity `r % 2` in row `r / 2` of the codes, under the scale of row
    `o + r / 16`. -/
theorem tile_apply (v : Vec F (T 32) .fp8e4m3) (o : Nat) (h : o ≤ 16) (c : Fin 4 → Vec F (T 32) .i8) (r : Fin 256) (l : Fin 128) :
    tile v o h (c 0) (c 1) (c 2) (c 3) (ix2 r l)
      = weight (r.val % 2) (c ⟨r.val / 64, by omega⟩ (ix2 ⟨r.val % 64 / 2, by omega⟩ l) : BitVec 8) (v (ix2 ⟨o + r.val / 16, by omega⟩ l)) := by
  have hk : r.val / 64 < 4 := by omega
  have hg : ∀ (k : Fin 4) (u : Nat) (hu : u ≤ 28), (⟨r.val / 64, hk⟩ : Fin 4) = k → u = o + 4 * k.val →
      quarter (extractStridedSlice (T 4) ![u, 0] (scales v) (slices4 u hu)) (c k) (ix2 (⟨r.val % 64, by omega⟩ : Fin 64) l)
        = weight (r.val % 2) (c ⟨r.val / 64, hk⟩ (ix2 ⟨r.val % 64 / 2, by omega⟩ l) : BitVec 8) (v (ix2 ⟨o + r.val / 16, by omega⟩ l)) := by
    intro k u hu h1 h2
    have h1' : r.val / 64 = k.val := congrArg Fin.val h1
    rw [quarter_apply, h1]
    have e : extractStridedSlice (T 4) ![u, 0] (scales v) (slices4 u hu) (ix2 (⟨r.val % 64 / 16, by omega⟩ : Fin 4) l)
        = scales v (ix2 ⟨o + r.val / 16, by omega⟩ l) :=
      extractStridedSlice_apply _ _ _ _ _ fun a => match a with
        | ⟨0, _⟩ => by show o + r.val / 16 = u + r.val % 64 / 16; omega
        | ⟨1, _⟩ => (Nat.zero_add _).symm
    unfold weight
    rw [show (⟨r.val % 64, by omega⟩ : Fin 64).val % 2 = r.val % 2 by show r.val % 64 % 2 = _; omega]
    exact congrArg (fun z => FloatOps.truncf .bf16 _ (FloatOps.mulf _ z)) e
  exact stack4 64 256 _ _ _ _ cat256 (r.val / 64) hk r ⟨r.val % 64, by omega⟩ l (by show 64 * (r.val / 64) + r.val % 64 = r.val; omega) _
    (fun h => hg 0 o (by omega) (Fin.ext h) rfl) (fun h => hg 1 (o + 4) (by omega) (Fin.ext h) rfl)
    (fun h => hg 2 (o + 8) (by omega) (Fin.ext h) rfl) (fun h => hg 3 (o + 12) (by omega) (Fin.ext h) rfl)

/-- The block of bytes a point reads. -/
abbrev CB : Shape := ⟨2, ![256, 640]⟩
/-- The block of scales a point reads. -/
abbrev SB : Shape := ⟨2, ![32, 640]⟩

/-- Thirty-two rows and 128 columns of the block of bytes. -/
abbrev codeRect (u k : Nat) (hu : u + 32 ≤ 256) (hk : k + 128 ≤ 640) : Rect CB :=
  Rect.unit (s := CB) ![u, k] (T 32).size fun a => match a with
    | ⟨0, _⟩ => hu
    | ⟨1, _⟩ => hk

/-- 128 columns of the block of scales. -/
abbrev scaleRect (k : Nat) (hk : k + 128 ≤ 640) : Rect SB :=
  Rect.unit (s := SB) ![0, k] (T 32).size fun a => match a with
    | ⟨0, _⟩ => by show 0 + 32 ≤ 32; omega
    | ⟨1, _⟩ => hk

/-- The tile of a block that starts at row `16 o` and column `k`. -/
def blockTile (x0 : Vec F CB .i8) (x1 : Vec F SB .fp8e4m3) (o k : Nat) (ho : o ≤ 16) (hk : k + 128 ≤ 640) : FVec F (T 256) .bf16 :=
  tile (View.ld x1 (scaleRect k hk)) o ho (View.ld x0 (codeRect (8 * o) k (by omega) hk))
    (View.ld x0 (codeRect (8 * o + 32) k (by omega) hk)) (View.ld x0 (codeRect (8 * o + 64) k (by omega) hk))
    (View.ld x0 (codeRect (8 * o + 96) k (by omega) hk))

/-- The weights of a block, by row and column. -/
def weightOf (x0 : Vec F CB .i8) (x1 : Vec F SB .fp8e4m3) (r : Fin 512) (l : Fin 640) : F .bf16 :=
  weight (r.val % 2) (x0 (ix2 ⟨r.val / 2, by omega⟩ l) : BitVec 8) (x1 (ix2 ⟨r.val / 16, by omega⟩ l))

theorem blockTile_apply (x0 : Vec F CB .i8) (x1 : Vec F SB .fp8e4m3) (o k : Nat) (ho : o ≤ 16) (hk : k + 128 ≤ 640)
    (r : Fin 256) (l : Fin 128) :
    blockTile x0 x1 o k ho hk (ix2 r l) = weightOf x0 x1 ⟨16 * o + r.val, by omega⟩ ⟨k + l.val, by omega⟩ := by
  unfold blockTile
  refine (tile_apply _ o ho (fun j : Fin 4 => View.ld x0 (codeRect (8 * o + 32 * j.val) k (by omega) hk)) r l).trans ?_
  unfold weightOf
  have e0 : (16 * o + r.val) % 2 = r.val % 2 := by omega
  have e1 : View.ld x0 (codeRect (8 * o + 32 * (r.val / 64)) k (by omega) hk) (ix2 ⟨r.val % 64 / 2, by omega⟩ l)
      = x0 (ix2 ⟨(16 * o + r.val) / 2, by omega⟩ ⟨k + l.val, by omega⟩) := by
    show x0 _ = x0 _
    congr 1
    funext a
    match a with
    | ⟨0, _⟩ => exact Fin.ext (by show 8 * o + 32 * (r.val / 64) + 1 * (r.val % 64 / 2) = (16 * o + r.val) / 2; omega)
    | ⟨1, _⟩ => exact Fin.ext (by show k + 1 * l.val = k + l.val; omega)
  have e2 : View.ld x1 (scaleRect k hk) (ix2 ⟨o + r.val / 16, by omega⟩ l)
      = x1 (ix2 ⟨(16 * o + r.val) / 16, by omega⟩ ⟨k + l.val, by omega⟩) := by
    show x1 _ = x1 _
    congr 1
    funext a
    match a with
    | ⟨0, _⟩ => exact Fin.ext (by show 0 + 1 * (o + r.val / 16) = (16 * o + r.val) / 16; omega)
    | ⟨1, _⟩ => exact Fin.ext (by show k + 1 * l.val = k + l.val; omega)
  show weight (r.val % 2) (View.ld x0 (codeRect (8 * o + 32 * (r.val / 64)) k (by omega) hk) (ix2 ⟨r.val % 64 / 2, by omega⟩ l))
    (View.ld x1 (scaleRect k hk) (ix2 ⟨o + r.val / 16, by omega⟩ l)) = weight ((16 * o + r.val) % 2) _ _
  rw [e0, e1, e2]

end AnyF

end Cert.Proof.Dequant

end
-- ==== Proof.Dequant.DoValue.lean ====
/-
  The dequantiser of the output projection's weight: what one grid point writes, and what the result array holds after the
  run.
-/
module

public import proofs.«01_k».proof.Proof.Gen.DoKernelIdeal.Value
public import proofs.«01_k».proof.Proof.Dequant.Tile
public import Idealize.ShloMosaic.Lib.Pointwise
public import Idealize.ShloMosaic.Lib.StableHlo.Run
public import Idealize.ShloMosaic.Lib.Tactic

@[expose] public section

set_option maxRecDepth 16384

noncomputable section

namespace Cert.Proof.Dequant.Do

open Idealize.ShloMosaic Idealize.ShloMosaic.TcCoe Idealize.SL.Sem
open Cert.DoKernelIdeal Cert.DoKernelIdeal.Gen
open Idealize.ShloMosaic.Pipeline (Dat)

section AnyF
variable {F : FTy → Type} [FloatOps F]

/-- The block a point writes. -/
def block (x0 : Vec F CB .i8) (x1 : Vec F SB .fp8e4m3) : Vec F S512x640 .bf16 := fun y => weightOf x0 x1 (y 0) (y 1)

/-- A tile of the block the point writes is the block at the tile's place. -/
theorem tile_eq (x0 : Vec F CB .i8) (x1 : Vec F SB .fp8e4m3) (u o k : Nat) (hu : u = 16 * o) (ho : o ≤ 16) (hk : k + 128 ≤ 640)
    (h : ∀ a, (![u, k] : Fin 2 → Nat) a + S256x128.size a ≤ S512x640.size a) (x : (T 256).Idx) :
    blockTile x0 x1 o k ho hk x = block x0 x1 ((Rect.unit (s := S512x640) ![u, k] S256x128.size h).emb x) := by
  obtain ⟨r, l, rfl⟩ : ∃ (r : Fin 256) (l : Fin 128), x = ix2 r l := ⟨x 0, x 1, eq_ix2 x⟩
  rw [blockTile_apply]
  show weightOf x0 x1 _ _ = weightOf x0 x1 _ _
  congr 1
  · exact Fin.ext (by show 16 * o + r.val = u + 1 * r.val; omega)
  · exact Fin.ext (by show k + l.val = k + 1 * l.val; omega)

/-- The body's ten stores leave the block of weights. -/
theorem out_eq (x0 : Vec F CB .i8) (x1 : Vec F SB .fp8e4m3) : out0_2 x0 x1 = block x0 x1 := by
  funext y
  unfold out0_2
  refine View.canon_apply_of_pieces (block x0 x1) _ ?_ y (cover0_2 _ _ _ _ _ _ _ _ _ _ y)
  simp only [List.forall_mem_cons, List.not_mem_nil, false_imp_iff, implies_true, and_true]
  refine ⟨?_, ?_, ?_, ?_, ?_, ?_, ?_, ?_, ?_, ?_⟩ <;> intro x
  · refine Eq.trans ?_ (tile_eq x0 x1 256 16 512 rfl (by decide) (by decide) inb_S512x640_S256x128_256_512 x)
    with_unfolding_all rfl
  · refine Eq.trans ?_ (tile_eq x0 x1 0 0 512 rfl (by decide) (by decide) inb_S512x640_S256x128_0_512 x)
    with_unfolding_all rfl
  · refine Eq.trans ?_ (tile_eq x0 x1 256 16 384 rfl (by decide) (by decide) inb_S512x640_S256x128_256_384 x)
    with_unfolding_all rfl
  · refine Eq.trans ?_ (tile_eq x0 x1 0 0 384 rfl (by decide) (by decide) inb_S512x640_S256x128_0_384 x)
    with_unfolding_all rfl
  · refine Eq.trans ?_ (tile_eq x0 x1 256 16 256 rfl (by decide) (by decide) inb_S512x640_S256x128_256_256 x)
    with_unfolding_all rfl
  · refine Eq.trans ?_ (tile_eq x0 x1 0 0 256 rfl (by decide) (by decide) inb_S512x640_S256x128_0_256 x)
    with_unfolding_all rfl
  · refine Eq.trans ?_ (tile_eq x0 x1 256 16 128 rfl (by decide) (by decide) inb_S512x640_S256x128_256_128 x)
    with_unfolding_all rfl
  · refine Eq.trans ?_ (tile_eq x0 x1 0 0 128 rfl (by decide) (by decide) inb_S512x640_S256x128_0_128 x)
    with_unfolding_all rfl
  · refine Eq.trans ?_ (tile_eq x0 x1 256 16 0 rfl (by decide) (by decide) inb_S512x640_S256x128_256_0 x)
    with_unfolding_all rfl
  · refine Eq.trans ?_ (tile_eq x0 x1 0 0 0 rfl (by decide) (by decide) inb_S512x640_S256x128_0_0 x)
    with_unfolding_all rfl

end AnyF

variable (m : (ℓ : Loc nD τ sig) → Buf (Elt Ideal) ℓ) (ρ : Dev nD → PrngReg)

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem t_lt (t : Fin cfg0.N) : t.val < 80 := lt_of_lt_of_eq t.isLt N_0

/-- Column `l` of the point's column block, in the whole array. -/
def col (t : Fin cfg0.N) (l : Fin 640) : Fin 5120 := ⟨t.val % 8 * 640 + l.val, by have := t_lt t; omega⟩
/-- Row `r` of the point's block of weights, in the whole array. -/
def row (t : Fin cfg0.N) (r : Fin 512) : Fin 5120 := ⟨t.val / 8 * 512 + r.val, by have := t_lt t; omega⟩

/-- The weights over the whole arrays: row `r` holds the `r % 2`-th code of byte row `r / 2`, in block row `r / 16`. -/
def result (codes : Vec Ideal S2560x5120 .i8) (scales : Vec Ideal S320x5120 .fp8e4m3) : Vec Ideal S5120x5120 .bf16 := fun i =>
  weight (F := Ideal) ((i 0).val % 2) (codes (ix2 ⟨(i 0).val / 2, by have h : (i 0).val < 5120 := (i 0).isLt; omega⟩ (i 1)))
    (scales (ix2 ⟨(i 0).val / 16, by have h : (i 0).val < 5120 := (i 0).isLt; omega⟩ (i 1)))

theorem blk0 (c : Dev nD) (t : Fin cfg0.N) (r : Fin 256) (l : Fin 640) :
    (iblk m c 0 t : Vec Ideal S256x640 .i8) (ix2 r l)
      = m ((c : Thread nD τ).loc main_arg0) (ix2 ⟨t.val / 8 * 256 + r.val, by have := t_lt t; omega⟩ (col t l)) := by
  unfold iblk
  rw [View.read_apply]
  show V m c main_arg0 _ = _
  rw [V_main_arg0]
  congr 1
  funext a
  apply Fin.ext
  match a with
  | ⟨0, _⟩ => show win0_0.index t 0 * 256 + 1 * r.val = t.val / 8 * 256 + r.val; rw [(idx0 t).1]; omega
  | ⟨1, _⟩ => show win0_0.index t 1 * 640 + 1 * l.val = t.val % 8 * 640 + l.val; rw [(idx0 t).2]; omega

theorem blk1 (c : Dev nD) (t : Fin cfg0.N) (r : Fin 32) (l : Fin 640) :
    (iblk m c 1 t : Vec Ideal S32x640 .fp8e4m3) (ix2 r l)
      = m ((c : Thread nD τ).loc main_arg1) (ix2 ⟨t.val / 8 * 32 + r.val, by have := t_lt t; omega⟩ (col t l)) := by
  unfold iblk
  rw [View.read_apply]
  show V m c main_arg1 _ = _
  rw [V_main_arg1]
  congr 1
  funext a
  apply Fin.ext
  match a with
  | ⟨0, _⟩ => show win0_1.index t 0 * 32 + 1 * r.val = t.val / 8 * 32 + r.val; rw [(idx1 t).1]; omega
  | ⟨1, _⟩ => show win0_1.index t 1 * 640 + 1 * l.val = t.val % 8 * 640 + l.val; rw [(idx1 t).2]; omega

/-- The result over the arguments as launched. -/
abbrev res (c : Dev nD) : Buf (Elt Ideal) ((c : Thread nD τ).loc main_v0) :=
  result (m ((c : Thread nD τ).loc main_arg0)) (m ((c : Thread nD τ).loc main_arg1))

/-- What the body leaves at an element is the result at the element's place in the whole array. -/
theorem block_blk (c : Dev nD) (t : Fin cfg0.N) (r : Fin 512) (l : Fin 640) :
    weightOf (iblk m c 0 t) (iblk m c 1 t) r l = res m c (ix2 (row t r) (col t l)) := by
  have h := t_lt t
  have hr := r.isLt
  unfold weightOf
  have e0 := blk0 m c t ⟨r.val / 2, by omega⟩ l
  have e1 := blk1 m c t ⟨r.val / 16, by omega⟩ l
  refine (congrArg₂ (weight (F := Ideal) (r.val % 2)) e0 e1).trans ?_
  show weight (F := Ideal) _ _ _ = weight (F := Ideal) _ _ _
  have p : r.val % 2 = (t.val / 8 * 512 + r.val) % 2 := by omega
  have q : t.val / 8 * 256 + r.val / 2 = (t.val / 8 * 512 + r.val) / 2 := by omega
  have s : t.val / 8 * 32 + r.val / 16 = (t.val / 8 * 512 + r.val) / 16 := by omega
  simp only [p, q, s]
  rfl

/-- Every point writes back its block of the result. -/
theorem flushed_eq (c : Dev nD) (t : Fin cfg0.N) (hf : (cfg0.win 2).flush t = true) :
    (dats m 0 c).flushed 2 t = ((cfg0.win 2).blk t).view.read (Elt Ideal) (res m c) := by
  rw [Value.flushed2, out_eq]
  generalize hG : res m c = G
  funext j
  obtain ⟨r, l, rfl⟩ : ∃ (r : Fin 512) (l : Fin 640), j = ix2 r l := ⟨j 0, j 1, eq_ix2 j⟩
  rw [View.read_apply]
  refine (block_blk m c t r l).trans ?_
  rw [hG]
  congr 1
  funext a
  apply Fin.ext
  match a with
  | ⟨0, _⟩ => show t.val / 8 * 512 + r.val = win0_2.index t 0 * 512 + 1 * r.val; rw [(idx2 t).1]; omega
  | ⟨1, _⟩ => show t.val % 8 * 640 + l.val = win0_2.index t 1 * 640 + 1 * l.val; rw [(idx2 t).2]; omega

theorem flush2 : ∀ t : Fin cfg0.N, (cfg0.win 2).flush t = true :=
  (by decide +kernel : ∀ t : Fin grid0.N, win0_2.flush t = true)

/-- The points' blocks cover the result, so it ends whole. -/
theorem final (c : Dev nD) : (dats m 0 c).arrAt 2 cfg0.N = res m c :=
  (dats m 0 c).arrAt_eq_of_cover 2 (res m c) (flushed_eq m c) fun i => by
    have h0 : (i 0 : Nat) < 5120 := (i 0).isLt
    have h1 : (i 1 : Nat) < 5120 := (i 1).isLt
    let t : Fin cfg0.N := ⟨(i 0 : Nat) / 512 * 8 + (i 1 : Nat) / 640, by rw [show cfg0.N = 80 from N_0]; omega⟩
    have e0 : t.val / 8 = (i 0 : Nat) / 512 := by show ((i 0 : Nat) / 512 * 8 + (i 1 : Nat) / 640) / 8 = _; omega
    have e1 : t.val % 8 = (i 1 : Nat) / 640 := by show ((i 0 : Nat) / 512 * 8 + (i 1 : Nat) / 640) % 8 = _; omega
    refine ⟨t, flush2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [(idx2 t).1, e0]; omega
    | ⟨1, _⟩ => show win0_2.index t 1 * 640 ≤ (i 1 : Nat) ∧ (i 1 : Nat) < win0_2.index t 1 * 640 + 640
                rw [(idx2 t).2, e1]; omega

/-- The run: the result array at the weights, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Proof.Dequant.Do

end
-- ==== Proof.Dequant.Code.lean ====
/-
  One weight over the extended reals: the small float the kernel builds from a four bit code, times sixty-four times the
  scale, is the code's value times the scale.
-/
module

public import Idealize.ShloMosaic.Lib.Pointwise
public import proofs.«01_k».proof.Proof.Dequant.Tile

@[expose] public section

set_option maxRecDepth 16384

noncomputable section

namespace Cert.Proof.Dequant

open Idealize.ShloMosaic Idealize.SL.Sem

/-- The bit test of the code. -/
def bit (c n : BitVec 32) : BitVec 1 := IntOp.cmpi .ne (c &&& n) 0#32

/-- A code's value as the reference decodes it. -/
def decode {F : FTy → Type} [FloatOps F] (c : BitVec 32) : F .bf16 :=
  let lo : F .f32 := Scalar.select (bit c 2#32) (Scalar.select (bit c 1#32) (FloatOps.ofBits .f32 0x3FC00000#32) (FloatOps.ofBits .f32 0x3F800000#32))
    (Scalar.select (bit c 1#32) (FloatOps.ofBits .f32 0x3F000000#32) (FloatOps.ofBits .f32 0x00000000#32))
  let hi : F .f32 := Scalar.select (bit c 2#32) (Scalar.select (bit c 1#32) (FloatOps.ofBits .f32 0x40C00000#32) (FloatOps.ofBits .f32 0x40800000#32))
    (Scalar.select (bit c 1#32) (FloatOps.ofBits .f32 0x40400000#32) (FloatOps.ofBits .f32 0x40000000#32))
  let mag : F .f32 := Scalar.select (bit c 4#32) hi lo
  FloatOps.truncf .bf16 (by decide) (Scalar.select (bit c 8#32) (FloatOps.hostNegf mag) mag)

/-- The `p`-th code of a byte, as a word. -/
def nibble (p : Nat) (b : BitVec 8) : BitVec 32 :=
  if p = 0 then b.setWidth 32 &&& 15#32 else IntOp.shrsi .host (b.setWidth 32) 4#32

/-- A four bit code as the small float's pattern. -/
def pattern (c : BitVec 4) : BitVec 8 := (c.setWidth 8 <<< 2 &&& 0x1C#8) ||| (c.setWidth 8 <<< 4 &&& 0x80#8)

theorem loByte_eq : ∀ b : BitVec 8, loByte b = pattern (b.setWidth 4) := by decide +kernel
theorem hiByte_eq : ∀ b : BitVec 8, hiByte b = pattern ((b >>> 4).setWidth 4) := by decide +kernel
theorem nibble_lo : ∀ b : BitVec 8, nibble 0 b = (b.setWidth 4).setWidth 32 := by decide +kernel
theorem nibble_hi : ∀ b : BitVec 8, nibble 1 b = ((b >>> 4).setWidth 4).setWidth 32 := by decide +kernel

theorem val_3FC00000 : Ideal.ieee 8 23 0x3FC00000#32 = ((3/2 : ℝ) : EReal) := by
  simp [Ideal.ieee, -EReal.coe_mul]
  try norm_num
theorem val_3F800000 : Ideal.ieee 8 23 0x3F800000#32 = ((1 : ℝ) : EReal) := by
  simp [Ideal.ieee, -EReal.coe_mul]
  try norm_num
theorem val_3F000000 : Ideal.ieee 8 23 0x3F000000#32 = ((1/2 : ℝ) : EReal) := by
  simp [Ideal.ieee, -EReal.coe_mul]
  try norm_num
theorem val_00000000 : Ideal.ieee 8 23 0x00000000#32 = ((0 : ℝ) : EReal) := by
  simp [Ideal.ieee, -EReal.coe_mul]
  try norm_num
theorem val_40C00000 : Ideal.ieee 8 23 0x40C00000#32 = ((6 : ℝ) : EReal) := by
  simp [Ideal.ieee, -EReal.coe_mul]
  try norm_num
theorem val_40800000 : Ideal.ieee 8 23 0x40800000#32 = ((4 : ℝ) : EReal) := by
  simp [Ideal.ieee, -EReal.coe_mul]
  try norm_num
theorem val_40400000 : Ideal.ieee 8 23 0x40400000#32 = ((3 : ℝ) : EReal) := by
  simp [Ideal.ieee, -EReal.coe_mul]
  try norm_num
theorem val_40000000 : Ideal.ieee 8 23 0x40000000#32 = ((2 : ℝ) : EReal) := by
  simp [Ideal.ieee, -EReal.coe_mul]
  try norm_num
theorem val_42800000 : Ideal.ieee 8 23 0x42800000#32 = ((64 : ℝ) : EReal) := by
  simp [Ideal.ieee, -EReal.coe_mul]
  try norm_num

theorem neg_val (x : Ideal .f32) : FloatOps.hostNegf x = (-x : EReal) := rfl
theorem trunc_val (x : Ideal .f32) (h) : FloatOps.truncf .bf16 h x = x := rfl
theorem ofBits_val (b : BitVec 32) : (FloatOps.ofBits .f32 b : Ideal .f32) = Ideal.ieee 8 23 b := rfl

/-- The small float of a code is its value over sixty-four. -/
theorem code_eq (c : BitVec 4) : (Ideal.e4m3fn (pattern c) : EReal) * Ideal.ieee 8 23 0x42800000#32
    = decode (F := Ideal) (c.setWidth 32) := by
  unfold decode
  simp only [trunc_val, neg_val, ofBits_val, val_3FC00000, val_3F800000, val_3F000000, val_00000000, val_40C00000, val_40800000,
    val_40400000, val_40000000, val_42800000]
  obtain ⟨n, hn⟩ := c
  have hn' : n < 16 := hn
  interval_cases n <;>
  · simp [pattern, bit, Scalar.select, IntOp.cmpi, Ideal.e4m3fn, -EReal.coe_mul, ← EReal.coe_mul, ← EReal.coe_neg]
    try norm_num

/-- A weight is its code's value times its scale. -/
theorem weight_eq (p : Nat) (hp : p < 2) (b : BitVec 8) (s : Ideal .fp8e4m3) :
    (weight p b s : Ideal .bf16) = (decode (F := Ideal) (nibble p b) * s : EReal) := by
  have hv : (codeVal p b : Ideal .f32) * Ideal.ieee 8 23 0x42800000#32 = (decode (F := Ideal) (nibble p b) : EReal) := by
    interval_cases p
    · rw [nibble_lo, ← code_eq, ← loByte_eq]; rfl
    · rw [nibble_hi, ← code_eq, ← hiByte_eq]; rfl
  rw [← hv]
  show ((codeVal (F := Ideal) p b : EReal) * (s * Ideal.ieee 8 23 0x42800000#32) : EReal) = _
  rw [mul_assoc, mul_comm s]

end Cert.Proof.Dequant

end
-- ==== Proof.Dequant.DoReference.lean ====
/-
  The reference of the output projection's weight, run to an index function, and the equality with the kernel's result.
-/
module

public import proofs.«01_k».proof.Proof.Gen.DoReferenceIdeal.Value
public import proofs.«01_k».proof.Proof.Dequant.DoValue
public import proofs.«01_k».proof.Proof.Dequant.Code

@[expose] public section

set_option maxRecDepth 16384

noncomputable section

namespace Cert.Proof.Dequant.DoRef

open Idealize.ShloMosaic Idealize.ShloMosaic.TcCoe Idealize.SL.Sem
open Cert.DoReferenceIdeal Cert.DoReferenceIdeal.Gen
open Idealize.ShloMosaic.Pipeline (Dat)

section AnyF
variable {F : FTy → Type} [FloatOps F]

/-- The codes one per row, as words: the low codes of each row of bytes above the high ones. -/
def codes (a : Vec F S2560x5120 .i8) : Vec F S5120x5120 .i32 :=
  shapeCast S5120x5120 (concatenate S2560x2x5120 1
    [⟨S2560x1x5120, broadcastInDim S2560x1x5120 ![0, 2] bcast_S2560x5120_S2560x1x5120_0_2
        (andi (extui 32 a natLt_8_32) (broadcastInDim S2560x5120 ![] bcast_S_S2560x5120 (constantI S_ 32 15#32)))⟩,
     ⟨S2560x1x5120, broadcastInDim S2560x1x5120 ![0, 2] bcast_S2560x5120_S2560x1x5120_0_2
        (Host.shrsi (extui 32 a natLt_8_32) (broadcastInDim S2560x5120 ![] bcast_S_S2560x5120 (constantI S_ 32 4#32)))⟩]
    concatenates_S2560x1x5120_S2560x1x5120_S2560x2x5120_d1) shapeCasts_S2560x2x5120_S5120x5120

/-- The decoded weights before the scales, in blocks of sixteen rows. -/
def decoded (a : Vec F S2560x5120 .i8) : Vec F S320x16x5120 .bf16 :=
  shapeCast S320x16x5120 (fun i => decode (codes a i) : Vec F S5120x5120 .bf16) shapeCasts_S5120x5120_S320x16x5120

variable (m : (ℓ : Loc nD τ sig) → Buf (Elt F) ℓ) (ρ : Dev nD → PrngReg)

set_option maxHeartbeats 4000000 in
/-- What the region finds in its first array. -/
theorem V_decoded (c : Dev nD) : V m c main_v35 = decoded (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp
  after_results_loop
  rfl

/-- The two rows of codes of a row of bytes: the first holds the low codes, -/
theorem stack_left (x₁ x₂ : IVec S2560x1x5120 32) (j : S2560x2x5120.Idx) (i : S2560x1x5120.Idx)
    (h0 : (i 0).val = (j 0).val) (h1 : (i 1).val = (j 1).val) (h2 : (i 2).val = (j 2).val) :
    concatenate S2560x2x5120 1 [⟨S2560x1x5120, x₁⟩, ⟨S2560x1x5120, x₂⟩] concatenates_S2560x1x5120_S2560x1x5120_S2560x2x5120_d1 j = x₁ i :=
  concatenate_pair_apply_left (t := S2560x2x5120) 1 x₁ x₂ _ j rfl i fun b => match b with
    | ⟨0, _⟩ => h0
    | ⟨1, _⟩ => h1
    | ⟨2, _⟩ => h2
/-- and the second the high ones. -/
theorem stack_right (x₁ x₂ : IVec S2560x1x5120 32) (j : S2560x2x5120.Idx) (i : S2560x1x5120.Idx)
    (h0 : (i 0).val = (j 0).val) (h1 : (i 1).val + 1 = (j 1).val) (h2 : (i 2).val = (j 2).val) :
    concatenate S2560x2x5120 1 [⟨S2560x1x5120, x₁⟩, ⟨S2560x1x5120, x₂⟩] concatenates_S2560x1x5120_S2560x1x5120_S2560x2x5120_d1 j = x₂ i :=
  concatenate_pair_apply_right (t := S2560x2x5120) 1 x₁ x₂ _ j rfl rfl i (fun b hb => match b, hb with
    | ⟨0, _⟩, _ => h0
    | ⟨1, _⟩, hb => absurd rfl hb
    | ⟨2, _⟩, _ => h2) h1

/-- Row `r` of the codes holds code `r % 2` of byte row `r / 2`. -/
theorem codes_apply (a : Vec F S2560x5120 .i8) (r : Fin 5120) (l : Fin 5120) :
    (codes a : IVec S5120x5120 32) (ix2 r l) = nibble (r.val % 2) ((a : IVec S2560x5120 8) (ix2 ⟨r.val / 2, by omega⟩ l)) := by
  unfold codes
  refine (shapeCast_apply _ _ (ix2 r l) (fun a => match a with
    | ⟨0, _⟩ => ⟨r.val / 2, by show r.val / 2 < 2560; omega⟩ | ⟨1, _⟩ => ⟨r.val % 2, by show r.val % 2 < 2; omega⟩
    | ⟨2, _⟩ => ⟨l.val, l.isLt⟩ : S2560x2x5120.Idx)
    (by rw [Shape.rowMajor_val_three, Shape.rowMajor_val_two]
        show (r.val / 2 * 2 + r.val % 2) * 5120 + l.val = r.val * 5120 + l.val; omega)).trans ?_
  rcases Nat.mod_two_eq_zero_or_one r.val with h | h
  · refine (stack_left _ _ _ (ix3 ⟨r.val / 2, by omega⟩ 0 l) ?_ ?_ ?_).trans ?_
    · rfl
    · exact h.symm
    · rfl
    refine (broadcastInDim_apply _ _ _ (ix3 ⟨r.val / 2, by omega⟩ 0 l : S2560x1x5120.Idx) (ix2 ⟨r.val / 2, by omega⟩ l : S2560x5120.Idx) (fun b => by
        match b with
        | ⟨0, _⟩ => rfl
        | ⟨1, _⟩ => rfl)).trans ?_
    rw [h]
    rfl
  · refine (stack_right _ _ _ (ix3 ⟨r.val / 2, by omega⟩ 0 l) ?_ ?_ ?_).trans ?_
    · rfl
    · exact h.symm
    · rfl
    refine (broadcastInDim_apply _ _ _ (ix3 ⟨r.val / 2, by omega⟩ 0 l : S2560x1x5120.Idx) (ix2 ⟨r.val / 2, by omega⟩ l : S2560x5120.Idx) (fun b => by
        match b with
        | ⟨0, _⟩ => rfl
        | ⟨1, _⟩ => rfl)).trans ?_
    rw [h]
    rfl

/-- Row `q` of block `b` of the decoded weights is row `16 b + q`. -/
theorem decoded_apply (a : Vec F S2560x5120 .i8) (r : Fin 5120) (l : Fin 5120) (k : S320x16x5120.Idx)
    (h0 : (k 0).val = r.val / 16) (h1 : (k 1).val = r.val % 16) (h2 : (k 2).val = l.val) :
    decoded a k = decode (nibble (r.val % 2) ((a : IVec S2560x5120 8) (ix2 ⟨r.val / 2, by omega⟩ l))) := by
  unfold decoded
  refine (shapeCast_apply _ _ k (ix2 r l : S5120x5120.Idx)
    (by rw [Shape.rowMajor_val_three, Shape.rowMajor_val_two]
        show r.val * 5120 + l.val = ((k 0).val * 16 + (k 1).val) * 5120 + (k 2).val
        rw [h0, h1, h2]; omega)).trans ?_
  exact congrArg decode (codes_apply a r l)

end AnyF

variable (m : (ℓ : Loc nD τ sig) → Buf (Elt Ideal) ℓ) (ρ : Dev nD → PrngReg)

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

theorem blk0 (c : Dev nD) (t : Fin cfg0.N) : (iblk m c 0 t : Vec Ideal S320x16x5120 .bf16) = decoded (m ((c : Thread nD τ).loc main_arg0)) := by
  funext k
  unfold iblk
  rw [View.read_apply]
  show V m c main_v35 _ = _
  rw [V_decoded]
  congr 1
  funext a
  apply Fin.ext
  match a with
  | ⟨0, _⟩ => show win0_0.index t 0 * 320 + 1 * (k 0).val = (k 0).val; rw [(idx0 t).1]; omega
  | ⟨1, _⟩ => show win0_0.index t 1 * 16 + 1 * (k 1).val = (k 1).val; rw [(idx0 t).2.1]; omega
  | ⟨2, _⟩ => show win0_0.index t 2 * 5120 + 1 * (k 2).val = (k 2).val; rw [(idx0 t).2.2]; omega

theorem blk1 (c : Dev nD) (t : Fin cfg0.N) : (iblk m c 1 t : Vec Ideal S320x5120 .fp8e4m3) = m ((c : Thread nD τ).loc main_arg1) := by
  funext k
  unfold iblk
  rw [View.read_apply]
  show V m c main_arg1 _ = _
  rw [V_main_arg1]
  congr 1
  funext a
  apply Fin.ext
  match a with
  | ⟨0, _⟩ => show win0_1.index t 0 * 320 + 1 * (k 0).val = (k 0).val; rw [(idx1 t).1]; omega
  | ⟨1, _⟩ => show win0_1.index t 1 * 5120 + 1 * (k 1).val = (k 1).val; rw [(idx1 t).2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The result over the arguments as launched: the kernel's. -/
abbrev res (c : Dev nD) : Buf (Elt Ideal) ((c : Thread nD τ).loc main_v36) :=
  Do.result (m ((c : Thread nD τ).loc main_arg0)) (m ((c : Thread nD τ).loc main_arg1))

/-- The body leaves the kernel's result. -/
theorem out_eq (c : Dev nD) (t : Fin cfg0.N) : out0_2 (iblk m c 0 t) (iblk m c 1 t) = res m c := by
  rw [blk0, blk1]
  unfold out0_2
  funext y
  obtain ⟨r, l, rfl⟩ : ∃ (r : Fin 5120) (l : Fin 5120), y = ix2 r l := ⟨y 0, y 1, eq_ix2 y⟩
  rw [View.ld_unit_zero (S := S320x16x5120) hz3, View.ld_unit_zero (S := S320x5120) hz2, Value.canon2_eq]
  show (decoded (F := Ideal) _ _ * _ : EReal) = weight (F := Ideal) _ _ _
  rw [weight_eq _ (by omega), decoded_apply _ r l _ rfl rfl rfl]
  congr 2
  refine congrArg (m ((c : Thread nD τ).loc main_arg1)) (funext fun a => ?_)
  match a with
  | ⟨0, _⟩ => rfl
  | ⟨1, _⟩ => rfl

/-- The one point writes back the whole result. -/
theorem flushed_eq (c : Dev nD) (t : Fin cfg0.N) (hf : (cfg0.win 2).flush t = true) :
    (dats m 0 c).flushed 2 t = ((cfg0.win 2).blk t).view.read (Elt Ideal) (res m c) := by
  rw [Value.flushed2, out_eq]
  generalize hG : res m c = G
  funext j
  rw [View.read_apply]
  show G _ = G _
  congr 1
  funext a
  apply Fin.ext
  match a with
  | ⟨0, _⟩ => show (j 0).val = win0_2.index t 0 * 5120 + 1 * (j 0).val; rw [(idx2 t).1]; omega
  | ⟨1, _⟩ => show (j 1).val = win0_2.index t 1 * 5120 + 1 * (j 1).val; rw [(idx2 t).2]; omega

theorem flush2 : ∀ t : Fin cfg0.N, (cfg0.win 2).flush t = true :=
  (by decide +kernel : ∀ t : Fin grid0.N, win0_2.flush t = true)

theorem final (c : Dev nD) : (dats m 0 c).arrAt 2 cfg0.N = res m c :=
  (dats m 0 c).arrAt_eq_of_cover 2 (res m c) (flushed_eq m c) fun i => by
    have h0 : (i 0 : Nat) < 5120 := (i 0).isLt
    have h1 : (i 1 : Nat) < 5120 := (i 1).isLt
    let t : Fin cfg0.N := ⟨0, by decide⟩
    refine ⟨t, flush2 t, ?_⟩
    show i ∈ ((View.whole main_v36).slice (win0_2.rect t)).set
    rw [View.set_slice_whole, Rect.mem_set_unit]
    intro a
    match a with
    | ⟨0, _⟩ => show win0_2.index t 0 * 5120 ≤ (i 0 : Nat) ∧ (i 0 : Nat) < win0_2.index t 0 * 5120 + 5120
                rw [(idx2 t).1]; omega
    | ⟨1, _⟩ => show win0_2.index t 1 * 5120 ≤ (i 1 : Nat) ∧ (i 1 : Nat) < win0_2.index t 1 * 5120 + 5120
                rw [(idx2 t).2]; omega

/-- The reference's run: its result array at the kernel's result, the arguments unchanged. -/
theorem run : θ_run defs (onTc (τ := τ) (main (F := Ideal))) ⟨m, fun _ => 0, ρ⟩ fun r => ∀ c : Dev nD,
      r.2.mem ((c : Thread nD τ).loc main_v36) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Proof.Dequant.DoRef

end
-- ==== Proof.Dequant.DqkvValue.lean ====
/-
  The dequantiser of the query, key and value weight, which it leaves transposed: what one grid point writes, and what the result array holds after the
  run.
-/
module

public import proofs.«01_k».proof.Proof.Gen.DqkvKernelIdeal.Value
public import proofs.«01_k».proof.Proof.Dequant.Tile
public import Idealize.ShloMosaic.Lib.Pointwise
public import Idealize.ShloMosaic.Lib.Pipeline.Value
public import Idealize.ShloMosaic.Lib.StableHlo.Run
public import Idealize.ShloMosaic.Lib.Tactic

@[expose] public section

set_option maxRecDepth 16384

noncomputable section

namespace Cert.Proof.Dequant.Dqkv

open Idealize.ShloMosaic Idealize.ShloMosaic.TcCoe Idealize.SL.Sem
open Cert.DqkvKernelIdeal Cert.DqkvKernelIdeal.Gen
open Idealize.ShloMosaic.Pipeline (Dat)

section AnyF
variable {F : FTy → Type} [FloatOps F]

/-- The block a point writes. -/
def block (x0 : Vec F CB .i8) (x1 : Vec F SB .fp8e4m3) : Vec F S640x512 .bf16 := fun y => weightOf x0 x1 (y 1) (y 0)

/-- A transposed tile of the block the point writes is the block at the tile's place. -/
theorem tile_eq (x0 : Vec F CB .i8) (x1 : Vec F SB .fp8e4m3) (u o k : Nat) (hu : u = 16 * o) (ho : o ≤ 16) (hk : k + 128 ≤ 640)
    (h : ∀ a, (![k, u] : Fin 2 → Nat) a + S128x256.size a ≤ S640x512.size a) (x : S128x256.Idx) :
    transpose S128x256 [1, 0] (blockTile x0 x1 o k ho hk : FVec F S256x128 .bf16) transposes_S256x128_p1_0_S128x256 x
      = block x0 x1 ((Rect.unit (s := S640x512) ![k, u] S128x256.size h).emb x) := by
  obtain ⟨l, r, rfl⟩ : ∃ (l : Fin 128) (r : Fin 256), x = ix2 l r := ⟨x 0, x 1, eq_ix2 x⟩
  refine (transpose_apply [1, 0] _ _ (ix2 l r) (ix2 r l) (fun b => ?_)).trans ((blockTile_apply x0 x1 o k ho hk r l).trans ?_)
  · match b with
    | ⟨0, _⟩ => rfl
    | ⟨1, _⟩ => rfl
  show weightOf x0 x1 _ _ = weightOf x0 x1 _ _
  congr 1
  · exact Fin.ext (by show 16 * o + r.val = u + 1 * r.val; omega)
  · exact Fin.ext (by show k + l.val = k + 1 * l.val; omega)

/-- The body's ten stores leave the block of weights. -/
theorem out_eq (x0 : Vec F CB .i8) (x1 : Vec F SB .fp8e4m3) : out0_2 x0 x1 = block x0 x1 := by
  funext y
  unfold out0_2
  refine View.canon_apply_of_pieces (block x0 x1) _ ?_ y (cover0_2 _ _ _ _ _ _ _ _ _ _ y)
  simp only [List.forall_mem_cons, List.not_mem_nil, false_imp_iff, implies_true, and_true]
  refine ⟨?_, ?_, ?_, ?_, ?_, ?_, ?_, ?_, ?_, ?_⟩ <;> intro x
  · refine Eq.trans ?_ (tile_eq x0 x1 256 16 512 rfl (by decide) (by decide) inb_S640x512_S128x256_512_256 x)
    with_unfolding_all rfl
  · refine Eq.trans ?_ (tile_eq x0 x1 0 0 512 rfl (by decide) (by decide) inb_S640x512_S128x256_512_0 x)
    with_unfolding_all rfl
  · refine Eq.trans ?_ (tile_eq x0 x1 256 16 384 rfl (by decide) (by decide) inb_S640x512_S128x256_384_256 x)
    with_unfolding_all rfl
  · refine Eq.trans ?_ (tile_eq x0 x1 0 0 384 rfl (by decide) (by decide) inb_S640x512_S128x256_384_0 x)
    with_unfolding_all rfl
  · refine Eq.trans ?_ (tile_eq x0 x1 256 16 256 rfl (by decide) (by decide) inb_S640x512_S128x256_256_256 x)
    with_unfolding_all rfl
  · refine Eq.trans ?_ (tile_eq x0 x1 0 0 256 rfl (by decide) (by decide) inb_S640x512_S128x256_256_0 x)
    with_unfolding_all rfl
  · refine Eq.trans ?_ (tile_eq x0 x1 256 16 128 rfl (by decide) (by decide) inb_S640x512_S128x256_128_256 x)
    with_unfolding_all rfl
  · refine Eq.trans ?_ (tile_eq x0 x1 0 0 128 rfl (by decide) (by decide) inb_S640x512_S128x256_128_0 x)
    with_unfolding_all rfl
  · refine Eq.trans ?_ (tile_eq x0 x1 256 16 0 rfl (by decide) (by decide) inb_S640x512_S128x256_0_256 x)
    with_unfolding_all rfl
  · refine Eq.trans ?_ (tile_eq x0 x1 0 0 0 rfl (by decide) (by decide) inb_S640x512_S128x256_0_0 x)
    with_unfolding_all rfl

end AnyF

variable (m : (ℓ : Loc nD τ sig) → Buf (Elt Ideal) ℓ) (ρ : Dev nD → PrngReg)

theorem idx0 : ∀ t : Fin cfg0.N, win0_0.index t 0 = t.val / 10 ∧ win0_0.index t 1 = t.val % 10 :=
  (by decide +kernel : ∀ t : Fin grid0.N, win0_0.index t 0 = t.val / 10 ∧ win0_0.index t 1 = t.val % 10)
theorem idx1 : ∀ t : Fin cfg0.N, win0_1.index t 0 = t.val / 10 ∧ win0_1.index t 1 = t.val % 10 :=
  (by decide +kernel : ∀ t : Fin grid0.N, win0_1.index t 0 = t.val / 10 ∧ win0_1.index t 1 = t.val % 10)
theorem idx2 : ∀ t : Fin cfg0.N, win0_2.index t 0 = t.val % 10 ∧ win0_2.index t 1 = t.val / 10 :=
  (by decide +kernel : ∀ t : Fin grid0.N, win0_2.index t 0 = t.val % 10 ∧ win0_2.index t 1 = t.val / 10)

theorem t_lt (t : Fin cfg0.N) : t.val < 100 := lt_of_lt_of_eq t.isLt N_0

/-- Column `l` of the point's column block, in the whole array. -/
def col (t : Fin cfg0.N) (l : Fin 640) : Fin 6400 := ⟨t.val % 10 * 640 + l.val, by have := t_lt t; omega⟩
/-- Row `r` of the point's block of weights, in the whole array. -/
def row (t : Fin cfg0.N) (r : Fin 512) : Fin 5120 := ⟨t.val / 10 * 512 + r.val, by have := t_lt t; omega⟩

/-- The weights over the whole arrays: column `r` of the result holds the `r % 2`-th code of byte row `r / 2`, in block row `r / 16`. -/
def result (codes : Vec Ideal S2560x6400 .i8) (scales : Vec Ideal S320x6400 .fp8e4m3) : Vec Ideal S6400x5120 .bf16 := fun i =>
  weight (F := Ideal) ((i 1).val % 2) (codes (ix2 ⟨(i 1).val / 2, by have h : (i 1).val < 5120 := (i 1).isLt; omega⟩ (i 0)))
    (scales (ix2 ⟨(i 1).val / 16, by have h : (i 1).val < 5120 := (i 1).isLt; omega⟩ (i 0)))

theorem blk0 (c : Dev nD) (t : Fin cfg0.N) (r : Fin 256) (l : Fin 640) :
    (iblk m c 0 t : Vec Ideal S256x640 .i8) (ix2 r l)
      = m ((c : Thread nD τ).loc main_arg0) (ix2 ⟨t.val / 10 * 256 + r.val, by have := t_lt t; omega⟩ (col t l)) := by
  unfold iblk
  rw [View.read_apply]
  show V m c main_arg0 _ = _
  rw [V_main_arg0]
  congr 1
  funext a
  apply Fin.ext
  match a with
  | ⟨0, _⟩ => show win0_0.index t 0 * 256 + 1 * r.val = t.val / 10 * 256 + r.val; rw [(idx0 t).1]; omega
  | ⟨1, _⟩ => show win0_0.index t 1 * 640 + 1 * l.val = t.val % 10 * 640 + l.val; rw [(idx0 t).2]; omega

theorem blk1 (c : Dev nD) (t : Fin cfg0.N) (r : Fin 32) (l : Fin 640) :
    (iblk m c 1 t : Vec Ideal S32x640 .fp8e4m3) (ix2 r l)
      = m ((c : Thread nD τ).loc main_arg1) (ix2 ⟨t.val / 10 * 32 + r.val, by have := t_lt t; omega⟩ (col t l)) := by
  unfold iblk
  rw [View.read_apply]
  show V m c main_arg1 _ = _
  rw [V_main_arg1]
  congr 1
  funext a
  apply Fin.ext
  match a with
  | ⟨0, _⟩ => show win0_1.index t 0 * 32 + 1 * r.val = t.val / 10 * 32 + r.val; rw [(idx1 t).1]; omega
  | ⟨1, _⟩ => show win0_1.index t 1 * 640 + 1 * l.val = t.val % 10 * 640 + l.val; rw [(idx1 t).2]; omega

/-- The result over the arguments as launched. -/
abbrev res (c : Dev nD) : Buf (Elt Ideal) ((c : Thread nD τ).loc main_v0) :=
  result (m ((c : Thread nD τ).loc main_arg0)) (m ((c : Thread nD τ).loc main_arg1))

/-- What the body leaves at an element is the result at the element's place in the whole array. -/
theorem block_blk (c : Dev nD) (t : Fin cfg0.N) (r : Fin 512) (l : Fin 640) :
    weightOf (iblk m c 0 t) (iblk m c 1 t) r l = res m c (ix2 (col t l) (row t r)) := by
  have h := t_lt t
  have hr := r.isLt
  unfold weightOf
  have e0 := blk0 m c t ⟨r.val / 2, by omega⟩ l
  have e1 := blk1 m c t ⟨r.val / 16, by omega⟩ l
  refine (congrArg₂ (weight (F := Ideal) (r.val % 2)) e0 e1).trans ?_
  show weight (F := Ideal) _ _ _ = weight (F := Ideal) _ _ _
  have p : r.val % 2 = (t.val / 10 * 512 + r.val) % 2 := by omega
  have q : t.val / 10 * 256 + r.val / 2 = (t.val / 10 * 512 + r.val) / 2 := by omega
  have s : t.val / 10 * 32 + r.val / 16 = (t.val / 10 * 512 + r.val) / 16 := by omega
  simp only [p, q, s]
  rfl

/-- Every point writes back its block of the result. -/
theorem flushed_eq (c : Dev nD) (t : Fin cfg0.N) (hf : (cfg0.win 2).flush t = true) :
    (dats m 0 c).flushed 2 t = ((cfg0.win 2).blk t).view.read (Elt Ideal) (res m c) := by
  rw [Value.flushed2, out_eq]
  generalize hG : res m c = G
  funext j
  obtain ⟨l, r, rfl⟩ : ∃ (l : Fin 640) (r : Fin 512), j = ix2 l r := ⟨j 0, j 1, eq_ix2 j⟩
  rw [View.read_apply]
  refine (block_blk m c t r l).trans ?_
  rw [hG]
  congr 1
  funext a
  apply Fin.ext
  match a with
  | ⟨0, _⟩ => show t.val % 10 * 640 + l.val = win0_2.index t 0 * 640 + 1 * l.val; rw [(idx2 t).1]; omega
  | ⟨1, _⟩ => show t.val / 10 * 512 + r.val = win0_2.index t 1 * 512 + 1 * r.val; rw [(idx2 t).2]; omega

theorem flush2 : ∀ t : Fin cfg0.N, (cfg0.win 2).flush t = true :=
  (by decide +kernel : ∀ t : Fin grid0.N, win0_2.flush t = true)

/-- The points' blocks cover the result, so it ends whole. -/
theorem final (c : Dev nD) : (dats m 0 c).arrAt 2 cfg0.N = res m c :=
  (dats m 0 c).arrAt_eq_of_cover 2 (res m c) (flushed_eq m c) fun i => by
    have h0 : (i 0 : Nat) < 6400 := (i 0).isLt
    have h1 : (i 1 : Nat) < 5120 := (i 1).isLt
    let t : Fin cfg0.N := ⟨(i 1 : Nat) / 512 * 10 + (i 0 : Nat) / 640, by rw [show cfg0.N = 100 from N_0]; omega⟩
    have e0 : t.val / 10 = (i 1 : Nat) / 512 := by show ((i 1 : Nat) / 512 * 10 + (i 0 : Nat) / 640) / 10 = _; omega
    have e1 : t.val % 10 = (i 0 : Nat) / 640 := by show ((i 1 : Nat) / 512 * 10 + (i 0 : Nat) / 640) % 10 = _; omega
    refine ⟨t, flush2 t, ?_⟩
    show i ∈ ((View.whole main_v0).slice (win0_2.rect t)).set
    rw [View.set_slice_whole, Rect.mem_set_unit]
    intro a
    match a with
    | ⟨0, _⟩ => show win0_2.index t 0 * 640 ≤ (i 0 : Nat) ∧ (i 0 : Nat) < win0_2.index t 0 * 640 + 640
                rw [(idx2 t).1, e1]; omega
    | ⟨1, _⟩ => show win0_2.index t 1 * 512 ≤ (i 1 : Nat) ∧ (i 1 : Nat) < win0_2.index t 1 * 512 + 512
                rw [(idx2 t).2, e0]; omega

/-- The run: the result array at the weights, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Proof.Dequant.Dqkv

end
-- ==== Proof.Dequant.DqkvReference.lean ====
/-
  The reference of the query, key and value weight, transposed as the call leaves it, run to an index function, and the equality with the kernel's result.
-/
module

public import proofs.«01_k».proof.Proof.Gen.DqkvReferenceIdeal.Value
public import proofs.«01_k».proof.Proof.Dequant.DqkvValue
public import proofs.«01_k».proof.Proof.Dequant.Code

@[expose] public section

set_option maxRecDepth 16384

noncomputable section

namespace Cert.Proof.Dequant.DqkvRef

open Idealize.ShloMosaic Idealize.ShloMosaic.TcCoe Idealize.SL.Sem
open Cert.DqkvReferenceIdeal Cert.DqkvReferenceIdeal.Gen
open Idealize.ShloMosaic.Pipeline (Dat)

section AnyF
variable {F : FTy → Type} [FloatOps F]

/-- The codes one per row, as words: the low codes of each row of bytes above the high ones. -/
def codes (a : Vec F S2560x6400 .i8) : Vec F S5120x6400 .i32 :=
  shapeCast S5120x6400 (concatenate S2560x2x6400 1
    [⟨S2560x1x6400, broadcastInDim S2560x1x6400 ![0, 2] bcast_S2560x6400_S2560x1x6400_0_2
        (andi (extui 32 a natLt_8_32) (broadcastInDim S2560x6400 ![] bcast_S_S2560x6400 (constantI S_ 32 15#32)))⟩,
     ⟨S2560x1x6400, broadcastInDim S2560x1x6400 ![0, 2] bcast_S2560x6400_S2560x1x6400_0_2
        (Host.shrsi (extui 32 a natLt_8_32) (broadcastInDim S2560x6400 ![] bcast_S_S2560x6400 (constantI S_ 32 4#32)))⟩]
    concatenates_S2560x1x6400_S2560x1x6400_S2560x2x6400_d1) shapeCasts_S2560x2x6400_S5120x6400

/-- The decoded weights before the scales, in blocks of sixteen rows. -/
def decoded (a : Vec F S2560x6400 .i8) : Vec F S320x16x6400 .bf16 :=
  shapeCast S320x16x6400 (fun i => decode (codes a i) : Vec F S5120x6400 .bf16) shapeCasts_S5120x6400_S320x16x6400

variable (m : (ℓ : Loc nD τ sig) → Buf (Elt F) ℓ) (ρ : Dev nD → PrngReg)

set_option maxHeartbeats 4000000 in
/-- What the region finds in its first array. -/
theorem V_decoded (c : Dev nD) : V m c main_v35 = decoded (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp
  after_results_loop
  rfl

/-- The two rows of codes of a row of bytes: the first holds the low codes, -/
theorem stack_left (x₁ x₂ : IVec S2560x1x6400 32) (j : S2560x2x6400.Idx) (i : S2560x1x6400.Idx)
    (h0 : (i 0).val = (j 0).val) (h1 : (i 1).val = (j 1).val) (h2 : (i 2).val = (j 2).val) :
    concatenate S2560x2x6400 1 [⟨S2560x1x6400, x₁⟩, ⟨S2560x1x6400, x₂⟩] concatenates_S2560x1x6400_S2560x1x6400_S2560x2x6400_d1 j = x₁ i :=
  concatenate_pair_apply_left (t := S2560x2x6400) 1 x₁ x₂ _ j rfl i fun b => match b with
    | ⟨0, _⟩ => h0
    | ⟨1, _⟩ => h1
    | ⟨2, _⟩ => h2
/-- and the second the high ones. -/
theorem stack_right (x₁ x₂ : IVec S2560x1x6400 32) (j : S2560x2x6400.Idx) (i : S2560x1x6400.Idx)
    (h0 : (i 0).val = (j 0).val) (h1 : (i 1).val + 1 = (j 1).val) (h2 : (i 2).val = (j 2).val) :
    concatenate S2560x2x6400 1 [⟨S2560x1x6400, x₁⟩, ⟨S2560x1x6400, x₂⟩] concatenates_S2560x1x6400_S2560x1x6400_S2560x2x6400_d1 j = x₂ i :=
  concatenate_pair_apply_right (t := S2560x2x6400) 1 x₁ x₂ _ j rfl rfl i (fun b hb => match b, hb with
    | ⟨0, _⟩, _ => h0
    | ⟨1, _⟩, hb => absurd rfl hb
    | ⟨2, _⟩, _ => h2) h1

/-- Row `r` of the codes holds code `r % 2` of byte row `r / 2`. -/
theorem codes_apply (a : Vec F S2560x6400 .i8) (r : Fin 5120) (l : Fin 6400) :
    (codes a : IVec S5120x6400 32) (ix2 r l) = nibble (r.val % 2) ((a : IVec S2560x6400 8) (ix2 ⟨r.val / 2, by omega⟩ l)) := by
  unfold codes
  refine (shapeCast_apply _ _ (ix2 r l) (fun a => match a with
    | ⟨0, _⟩ => ⟨r.val / 2, by show r.val / 2 < 2560; omega⟩ | ⟨1, _⟩ => ⟨r.val % 2, by show r.val % 2 < 2; omega⟩
    | ⟨2, _⟩ => ⟨l.val, l.isLt⟩ : S2560x2x6400.Idx)
    (by rw [Shape.rowMajor_val_three, Shape.rowMajor_val_two]
        show (r.val / 2 * 2 + r.val % 2) * 6400 + l.val = r.val * 6400 + l.val; omega)).trans ?_
  rcases Nat.mod_two_eq_zero_or_one r.val with h | h
  · refine (stack_left _ _ _ (ix3 ⟨r.val / 2, by omega⟩ 0 l) ?_ ?_ ?_).trans ?_
    · rfl
    · exact h.symm
    · rfl
    refine (broadcastInDim_apply _ _ _ (ix3 ⟨r.val / 2, by omega⟩ 0 l : S2560x1x6400.Idx) (ix2 ⟨r.val / 2, by omega⟩ l : S2560x6400.Idx) (fun b => by
        match b with
        | ⟨0, _⟩ => rfl
        | ⟨1, _⟩ => rfl)).trans ?_
    rw [h]
    rfl
  · refine (stack_right _ _ _ (ix3 ⟨r.val / 2, by omega⟩ 0 l) ?_ ?_ ?_).trans ?_
    · rfl
    · exact h.symm
    · rfl
    refine (broadcastInDim_apply _ _ _ (ix3 ⟨r.val / 2, by omega⟩ 0 l : S2560x1x6400.Idx) (ix2 ⟨r.val / 2, by omega⟩ l : S2560x6400.Idx) (fun b => by
        match b with
        | ⟨0, _⟩ => rfl
        | ⟨1, _⟩ => rfl)).trans ?_
    rw [h]
    rfl

/-- Row `q` of block `b` of the decoded weights is row `16 b + q`. -/
theorem decoded_apply (a : Vec F S2560x6400 .i8) (r : Fin 5120) (l : Fin 6400) (k : S320x16x6400.Idx)
    (h0 : (k 0).val = r.val / 16) (h1 : (k 1).val = r.val % 16) (h2 : (k 2).val = l.val) :
    decoded a k = decode (nibble (r.val % 2) ((a : IVec S2560x6400 8) (ix2 ⟨r.val / 2, by omega⟩ l))) := by
  unfold decoded
  refine (shapeCast_apply _ _ k (ix2 r l : S5120x6400.Idx)
    (by rw [Shape.rowMajor_val_three, Shape.rowMajor_val_two]
        show r.val * 6400 + l.val = ((k 0).val * 16 + (k 1).val) * 6400 + (k 2).val
        rw [h0, h1, h2]; omega)).trans ?_
  exact congrArg decode (codes_apply a r l)

end AnyF

variable (m : (ℓ : Loc nD τ sig) → Buf (Elt Ideal) ℓ) (ρ : Dev nD → PrngReg)

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

theorem blk0 (c : Dev nD) (t : Fin cfg0.N) : (iblk m c 0 t : Vec Ideal S320x16x6400 .bf16) = decoded (m ((c : Thread nD τ).loc main_arg0)) := by
  funext k
  unfold iblk
  rw [View.read_apply]
  show V m c main_v35 _ = _
  rw [V_decoded]
  congr 1
  funext a
  apply Fin.ext
  match a with
  | ⟨0, _⟩ => show win0_0.index t 0 * 320 + 1 * (k 0).val = (k 0).val; rw [(idx0 t).1]; omega
  | ⟨1, _⟩ => show win0_0.index t 1 * 16 + 1 * (k 1).val = (k 1).val; rw [(idx0 t).2.1]; omega
  | ⟨2, _⟩ => show win0_0.index t 2 * 6400 + 1 * (k 2).val = (k 2).val; rw [(idx0 t).2.2]; omega

theorem blk1 (c : Dev nD) (t : Fin cfg0.N) : (iblk m c 1 t : Vec Ideal S320x6400 .fp8e4m3) = m ((c : Thread nD τ).loc main_arg1) := by
  funext k
  unfold iblk
  rw [View.read_apply]
  show V m c main_arg1 _ = _
  rw [V_main_arg1]
  congr 1
  funext a
  apply Fin.ext
  match a with
  | ⟨0, _⟩ => show win0_1.index t 0 * 320 + 1 * (k 0).val = (k 0).val; rw [(idx1 t).1]; omega
  | ⟨1, _⟩ => show win0_1.index t 1 * 6400 + 1 * (k 1).val = (k 1).val; rw [(idx1 t).2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The result over the arguments as launched: the kernel's. -/
abbrev res (c : Dev nD) : Buf (Elt Ideal) ((c : Thread nD τ).loc main_v36) :=
  Dqkv.result (m ((c : Thread nD τ).loc main_arg0)) (m ((c : Thread nD τ).loc main_arg1))

/-- The body leaves the kernel's result. -/
theorem out_eq (c : Dev nD) (t : Fin cfg0.N) : out0_2 (iblk m c 0 t) (iblk m c 1 t) = res m c := by
  rw [blk0, blk1]
  unfold out0_2
  funext y
  obtain ⟨l, r, rfl⟩ : ∃ (l : Fin 6400) (r : Fin 5120), y = ix2 l r := ⟨y 0, y 1, eq_ix2 y⟩
  rw [View.ld_unit_zero (S := S320x16x6400) hz3, View.ld_unit_zero (S := S320x6400) hz2, Value.canon2_eq]
  show (decoded (F := Ideal) _ _ * _ : EReal) = weight (F := Ideal) _ _ _
  rw [weight_eq _ (by omega), decoded_apply _ r l _ rfl rfl rfl]
  congr 2
  refine congrArg (m ((c : Thread nD τ).loc main_arg1)) (funext fun a => ?_)
  match a with
  | ⟨0, _⟩ => rfl
  | ⟨1, _⟩ => rfl

/-- The one point writes back the whole result. -/
theorem flushed_eq (c : Dev nD) (t : Fin cfg0.N) (hf : (cfg0.win 2).flush t = true) :
    (dats m 0 c).flushed 2 t = ((cfg0.win 2).blk t).view.read (Elt Ideal) (res m c) := by
  rw [Value.flushed2, out_eq]
  generalize hG : res m c = G
  funext j
  rw [View.read_apply]
  show G _ = G _
  congr 1
  funext a
  apply Fin.ext
  match a with
  | ⟨0, _⟩ => show (j 0).val = win0_2.index t 0 * 6400 + 1 * (j 0).val; rw [(idx2 t).1]; omega
  | ⟨1, _⟩ => show (j 1).val = win0_2.index t 1 * 5120 + 1 * (j 1).val; rw [(idx2 t).2]; omega

theorem flush2 : ∀ t : Fin cfg0.N, (cfg0.win 2).flush t = true :=
  (by decide +kernel : ∀ t : Fin grid0.N, win0_2.flush t = true)

theorem final (c : Dev nD) : (dats m 0 c).arrAt 2 cfg0.N = res m c :=
  (dats m 0 c).arrAt_eq_of_cover 2 (res m c) (flushed_eq m c) fun i => by
    have h0 : (i 0 : Nat) < 6400 := (i 0).isLt
    have h1 : (i 1 : Nat) < 5120 := (i 1).isLt
    let t : Fin cfg0.N := ⟨0, by decide⟩
    refine ⟨t, flush2 t, ?_⟩
    show i ∈ ((View.whole main_v36).slice (win0_2.rect t)).set
    rw [View.set_slice_whole, Rect.mem_set_unit]
    intro a
    match a with
    | ⟨0, _⟩ => show win0_2.index t 0 * 6400 ≤ (i 0 : Nat) ∧ (i 0 : Nat) < win0_2.index t 0 * 6400 + 6400
                rw [(idx2 t).1]; omega
    | ⟨1, _⟩ => show win0_2.index t 1 * 5120 ≤ (i 1 : Nat) ∧ (i 1 : Nat) < win0_2.index t 1 * 5120 + 5120
                rw [(idx2 t).2]; omega

/-- The reference's run: its result array at the kernel's result, the arguments unchanged. -/
theorem run : θ_run defs (onTc (τ := τ) (main (F := Ideal))) ⟨m, fun _ => 0, ρ⟩ fun r => ∀ c : Dev nD,
      r.2.mem ((c : Thread nD τ).loc main_v36) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Proof.Dequant.DqkvRef

end
-- ==== Proof.lean ====
/-
  The proof of the claim: the frames, and the two projections and the two dequantisers against their references.
-/
module

public import proofs.«01_k».proof.Defs
public import proofs.«01_k».proof.Proof.Gen.OutKernel.Frame
public import proofs.«01_k».proof.Proof.Out.Reference
public import proofs.«01_k».proof.Proof.QkvFrame.Frame
public import proofs.«01_k».proof.Proof.Qkv.Value
public import proofs.«01_k».proof.Proof.Qkv.Reference
public import proofs.«01_k».proof.Proof.Gen.DoKernel.Frame
public import proofs.«01_k».proof.Proof.Gen.DqkvKernel.Frame
public import proofs.«01_k».proof.Proof.Dequant.DoReference
public import proofs.«01_k».proof.Proof.Dequant.DqkvReference
public import Idealize.ShloMosaic.Lib.Bf16Pair
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The output projection's reference runs and leaves its arguments as they were. -/
theorem frame_OutReference : Cert.quiescent_OutReferenceIdeal (hOutReferenceIdeal := Cert.OutReferenceIdeal.Gen.facts) :=
  fun m ρ _ =>
    (θ_run Cert.OutReferenceIdeal.defs _ _).mono (fun r h => ⟨fun c => (h c).2,
      Idealize.ShloMosaic.sem_eq_zero_of_no_sems (by decide) r.2⟩) (Cert.OutReferenceIdeal.Value.run (F := Ideal) m ρ)

/-- The output projection and its reference leave equal results on equal arguments. -/
theorem algebraic_Out : Cert.algebraic_OutKernelIdeal_OutReferenceIdeal (hOutKernelIdeal := Cert.OutKernelIdeal.Gen.facts)
    (hOutReferenceIdeal := Cert.OutReferenceIdeal.Gen.facts) := by
  intro m g m' g' _ hargs
  refine ⟨fun c => Out.res m c, Out.run m g, ?_⟩
  refine (θ_run (Cert.OutReferenceIdeal.defs (F := Ideal)) _ _).mono (fun r h c => ?_) (Cert.OutReferenceIdeal.Value.run (F := Ideal) m' g')
  obtain ⟨hv, hk⟩ := h c
  refine ⟨hv.trans ?_, hk⟩
  obtain ⟨h0, h1, h2, h3, h4⟩ := hargs c
  rw [h0, h1, h2, h3, h4]
  exact Out.ref_eq _ _ _ _ _

/-- The query, key and value projection's reference runs and leaves its arguments as they were. -/
theorem frame_QkvReference : Cert.quiescent_QkvReferenceIdeal (hQkvReferenceIdeal := Cert.QkvReferenceIdeal.Gen.facts) :=
  fun m ρ _ =>
    (θ_run Cert.QkvReferenceIdeal.defs _ _).mono (fun r h => ⟨fun c => (h c).2.2,
      Idealize.ShloMosaic.sem_eq_zero_of_no_sems (by decide) r.2⟩) (Cert.QkvReferenceIdeal.Value.run (F := Ideal) m ρ)

/-- The query, key and value projection and its reference leave equal results on equal arguments. -/
theorem algebraic_Qkv : Cert.algebraic_QkvKernelIdeal_QkvReferenceIdeal (hQkvKernelIdeal := Cert.QkvKernelIdeal.Gen.facts)
    (hQkvReferenceIdeal := Cert.QkvReferenceIdeal.Gen.facts) := by
  intro m g m' g' _ hargs
  refine ⟨fun c => Qkv.resQ m c, fun c => Qkv.resKv m c, Qkv.run m g, ?_⟩
  refine (θ_run (Cert.QkvReferenceIdeal.defs (F := Ideal)) _ _).mono (fun r h c => ?_) (Cert.QkvReferenceIdeal.Value.run (F := Ideal) m' g')
  obtain ⟨hq, hkv, hk⟩ := h c
  have hA : Qkv.refArgs m' c = Qkv.kArgs m c := by
    obtain ⟨h0, h1, h2, h3, h4, h5⟩ := hargs c
    unfold Qkv.refArgs Qkv.kArgs
    rw [h0, h1, h2, h3, h4, h5]
  refine ⟨hq.trans ?_, hkv.trans ?_, hk⟩
  · funext j
    obtain ⟨o, n, rfl⟩ : ∃ (o : Fin 6400) (n : Fin 15360), j = ix2 o n := ⟨j 0, j 1, eq_ix2 j⟩
    refine (Qkv.res84_at m' c o n).trans ?_
    rw [hA]
    rfl
  · funext j
    obtain ⟨o, n, rfl⟩ : ∃ (o : Fin 1280) (n : Fin 15360), j = ix2 o n := ⟨j 0, j 1, eq_ix2 j⟩
    refine (Qkv.res86_at m' c o n).trans ?_
    rw [hA]
    rfl

/-- The output projection's weight: the dequantiser and its reference leave equal results on equal arguments. -/
theorem algebraic_Do : Cert.algebraic_DoKernelIdeal_DoReferenceIdeal (hDoKernelIdeal := Cert.DoKernelIdeal.Gen.facts)
    (hDoReferenceIdeal := Cert.DoReferenceIdeal.Gen.facts) := by
  intro m g m' g' _ hargs
  refine ⟨fun c => Dequant.Do.res m c, Dequant.Do.run m g, ?_⟩
  refine (θ_run (Cert.DoReferenceIdeal.defs (F := Ideal)) _ _).mono (fun r h c => ?_) (Dequant.DoRef.run m' g')
  obtain ⟨hv, hk⟩ := h c
  refine ⟨hv.trans ?_, hk⟩
  obtain ⟨h0, h1⟩ := hargs c
  unfold Dequant.DoRef.res
  rw [h0, h1]

/-- The output projection's weight: the rewrites of the dequantiser's idealization keep its meaning. -/
theorem preserves_Do : Cert.preserves_DoKernel_DoKernelIdeal :=
  ⟨IdealRules.bf16_pair.statement _ _, IdealRules.bf16_pack.statement _⟩

/-- The query, key and value weight: the dequantiser and its reference leave equal results on equal arguments. -/
theorem algebraic_Dqkv : Cert.algebraic_DqkvKernelIdeal_DqkvReferenceIdeal (hDqkvKernelIdeal := Cert.DqkvKernelIdeal.Gen.facts)
    (hDqkvReferenceIdeal := Cert.DqkvReferenceIdeal.Gen.facts) := by
  intro m g m' g' _ hargs
  refine ⟨fun c => Dequant.Dqkv.res m c, Dequant.Dqkv.run m g, ?_⟩
  refine (θ_run (Cert.DqkvReferenceIdeal.defs (F := Ideal)) _ _).mono (fun r h c => ?_) (Dequant.DqkvRef.run m' g')
  obtain ⟨hv, hk⟩ := h c
  refine ⟨hv.trans ?_, hk⟩
  obtain ⟨h0, h1⟩ := hargs c
  unfold Dequant.DqkvRef.res
  rw [h0, h1]

/-- The query, key and value weight: the rewrites of the dequantiser's idealization keep its meaning. -/
theorem preserves_Dqkv : Cert.preserves_DqkvKernel_DqkvKernelIdeal :=
  ⟨IdealRules.bf16_pair.statement _ _, IdealRules.bf16_pack.statement _⟩

theorem claim : Cert.Claim :=
  ⟨Cert.OutKernel.Gen.facts, Cert.OutKernelIdeal.Gen.facts, Cert.OutReferenceIdeal.Gen.facts,
    Cert.QkvKernel.Gen.facts, Cert.QkvKernelIdeal.Gen.facts, Cert.QkvReferenceIdeal.Gen.facts,
    Cert.DoKernel.Gen.facts, Cert.DoKernelIdeal.Gen.facts, Cert.DoReferenceIdeal.Gen.facts,
    Cert.DqkvKernel.Gen.facts, Cert.DqkvKernelIdeal.Gen.facts, Cert.DqkvReferenceIdeal.Gen.facts,
    fun m ρ _ => Cert.OutKernel.Gen.frame m ρ, fun m ρ _ => Cert.OutKernelIdeal.Gen.frame m ρ, frame_OutReference,
    fun m ρ _ => QkvFrame.frame m ρ, fun m ρ _ => Qkv.frame m ρ, frame_QkvReference,
    fun m ρ _ => Cert.DoKernel.Gen.frame m ρ, fun m ρ _ => Cert.DoKernelIdeal.Gen.frame m ρ, fun m ρ _ => Cert.DoReferenceIdeal.Gen.frame m ρ,
    fun m ρ _ => Cert.DqkvKernel.Gen.frame m ρ, fun m ρ _ => Cert.DqkvKernelIdeal.Gen.frame m ρ, fun m ρ _ => Cert.DqkvReferenceIdeal.Gen.frame m ρ,
    trivial, algebraic_Out, trivial, algebraic_Qkv, preserves_Do, algebraic_Do, preserves_Dqkv, algebraic_Dqkv⟩

end Cert.Proof

end
